-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S4096x256 : Shape := ⟨2, ![4096, 256]⟩
abbrev S8x512x256 : Shape := ⟨3, ![8, 512, 256]⟩
abbrev S1x128 : Shape := ⟨2, ![1, 128]⟩
abbrev S8x128 : Shape := ⟨2, ![8, 128]⟩
abbrev S_ : Shape := ⟨0, ![]⟩
abbrev S8 : Shape := ⟨1, ![8]⟩
abbrev S4096x512 : Shape := ⟨2, ![4096, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S512x256 : Shape := ⟨2, ![512, 256]⟩
abbrev S1x512x256 : Shape := ⟨3, ![1, 512, 256]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .f32⟩
  | .local _ .vmem, ⟨0, _⟩ => ⟨S512x4096, .f32⟩
  | .local _ .vmem, ⟨1, _⟩ => ⟨S4096x2048, .f32⟩
  | .local _ .vmem, ⟨2, _⟩ => ⟨S4096x256, .f32⟩
  | .local _ .vmem, ⟨3, _⟩ => ⟨S8x512x256, .bf16⟩
  | .local _ .vmem, ⟨4, _⟩ => ⟨S8x512x256, .bf16⟩
  | .local _ .vmem, ⟨5, _⟩ => ⟨S1x128, .f32⟩
  | .local _ .vmem, ⟨6, _⟩ => ⟨S8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_79 : BitVec 32 := 0#32
  let v122 : BitVec 1 := Scalar.cmpi .ne v2 c0_i32_79
  let v123 : BitVec 32 := Scalar.extui v122
  let c0_i32_80 : BitVec 32 := 0#32
  let v124 : BitVec 1 := Scalar.cmpi .ne v123 c0_i32_80
  v124

def k0_off1 (d0 : Dev nD) : Fin 1 → Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.subi c0_i32_68 v2
  let c8_i32_69 : BitVec 32 := 8#32
  let c0_i32_70 : BitVec 32 := 0#32
  let v108 : BitVec 1 := Scalar.cmpi .eq c8_i32_69 c0_i32_70
  let c1_i32_71 : BitVec 32 := 1#32
  let v109 : BitVec 32 := Scalar.select v108 c1_i32_71 c8_i32_69
  let v110 : BitVec 32 := Scalar.remsi v107 v109
  let c0_i32_73 : BitVec 32 := 0#32
  let v112 : BitVec 1 := Scalar.cmpi .slt v110 c0_i32_73
  let c0_i32_74 : BitVec 32 := 0#32
  let v113 : BitVec 1 := Scalar.cmpi .slt v109 c0_i32_74
  let v114 : BitVec 1 := Scalar.xori v112 v113
  let c0_i32_72 : BitVec 32 := 0#32
  let v111 : BitVec 1 := Scalar.cmpi .ne v110 c0_i32_72
  let v115 : BitVec 1 := Scalar.andi v114 v111
  let v116 : BitVec 32 := Scalar.addi v110 v109
  let v117 : BitVec 32 := Scalar.select v115 v116 v110
  ![v117.toNat]
def k0_off2 (d0 : Dev nD) : Fin 3 → Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.subi c0_i32_68 v2
  let c8_i32_69 : BitVec 32 := 8#32
  let c0_i32_70 : BitVec 32 := 0#32
  let v108 : BitVec 1 := Scalar.cmpi .eq c8_i32_69 c0_i32_70
  let c1_i32_71 : BitVec 32 := 1#32
  let v109 : BitVec 32 := Scalar.select v108 c1_i32_71 c8_i32_69
  let v110 : BitVec 32 := Scalar.remsi v107 v109
  let c0_i32_73 : BitVec 32 := 0#32
  let v112 : BitVec 1 := Scalar.cmpi .slt v110 c0_i32_73
  let c0_i32_74 : BitVec 32 := 0#32
  let v113 : BitVec 1 := Scalar.cmpi .slt v109 c0_i32_74
  let v114 : BitVec 1 := Scalar.xori v112 v113
  let c0_i32_72 : BitVec 32 := 0#32
  let v111 : BitVec 1 := Scalar.cmpi .ne v110 c0_i32_72
  let v115 : BitVec 1 := Scalar.andi v114 v111
  let v116 : BitVec 32 := Scalar.addi v110 v109
  let v117 : BitVec 32 := Scalar.select v115 v116 v110
  let c0_i32_585 : BitVec 32 := 0#32
  let c0_i32_586 : BitVec 32 := 0#32
  ![v117.toNat, 0, 0]
def k0_dev8 : Nat :=
  let c0_i32_584 : BitVec 32 := 0#32
  let c0_i32_582 : BitVec 32 := 0#32
  let c1_i32_583 : BitVec 32 := 1#32
  let v804 : BitVec 32 := Scalar.muli c0_i32_582 c1_i32_583
  let v805 : BitVec 32 := Scalar.addi c0_i32_584 v804
  v805.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_92 : BitVec 32 := 1#32
  let v143 : BitVec 1 := Scalar.cmpi .ne v2 c1_i32_92
  let v144 : BitVec 32 := Scalar.extui v143
  let c0_i32_93 : BitVec 32 := 0#32
  let v145 : BitVec 1 := Scalar.cmpi .ne v144 c0_i32_93
  v145

def k0_off3 (d0 : Dev nD) : Fin 1 → Nat :=
  let c1_i32_83 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v128 : BitVec 32 := Scalar.subi c1_i32_83 v2
  let c8_i32_84 : BitVec 32 := 8#32
  let c0_i32_85 : BitVec 32 := 0#32
  let v129 : BitVec 1 := Scalar.cmpi .eq c8_i32_84 c0_i32_85
  let c1_i32_86 : BitVec 32 := 1#32
  let v130 : BitVec 32 := Scalar.select v129 c1_i32_86 c8_i32_84
  let v131 : BitVec 32 := Scalar.remsi v128 v130
  let c0_i32_88 : BitVec 32 := 0#32
  let v133 : BitVec 1 := Scalar.cmpi .slt v131 c0_i32_88
  let c0_i32_89 : BitVec 32 := 0#32
  let v134 : BitVec 1 := Scalar.cmpi .slt v130 c0_i32_89
  let v135 : BitVec 1 := Scalar.xori v133 v134
  let c0_i32_87 : BitVec 32 := 0#32
  let v132 : BitVec 1 := Scalar.cmpi .ne v131 c0_i32_87
  let v136 : BitVec 1 := Scalar.andi v135 v132
  let v137 : BitVec 32 := Scalar.addi v131 v130
  let v138 : BitVec 32 := Scalar.select v136 v137 v131
  ![v138.toNat]
def k0_off4 (d0 : Dev nD) : Fin 3 → Nat :=
  let c1_i32_83 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v128 : BitVec 32 := Scalar.subi c1_i32_83 v2
  let c8_i32_84 : BitVec 32 := 8#32
  let c0_i32_85 : BitVec 32 := 0#32
  let v129 : BitVec 1 := Scalar.cmpi .eq c8_i32_84 c0_i32_85
  let c1_i32_86 : BitVec 32 := 1#32
  let v130 : BitVec 32 := Scalar.select v129 c1_i32_86 c8_i32_84
  let v131 : BitVec 32 := Scalar.remsi v128 v130
  let c0_i32_88 : BitVec 32 := 0#32
  let v133 : BitVec 1 := Scalar.cmpi .slt v131 c0_i32_88
  let c0_i32_89 : BitVec 32 := 0#32
  let v134 : BitVec 1 := Scalar.cmpi .slt v130 c0_i32_89
  let v135 : BitVec 1 := Scalar.xori v133 v134
  let c0_i32_87 : BitVec 32 := 0#32
  let v132 : BitVec 1 := Scalar.cmpi .ne v131 c0_i32_87
  let v136 : BitVec 1 := Scalar.andi v135 v132
  let v137 : BitVec 32 := Scalar.addi v131 v130
  let v138 : BitVec 32 := Scalar.select v136 v137 v131
  let c0_i32_585 : BitVec 32 := 0#32
  let c0_i32_586 : BitVec 32 := 0#32
  ![v138.toNat, 0, 0]
def k0_dev9 : Nat :=
  let c0_i32_584 : BitVec 32 := 0#32
  let c1_i32_582 : BitVec 32 := 1#32
  let c1_i32_583 : BitVec 32 := 1#32
  let v804 : BitVec 32 := Scalar.muli c1_i32_582 c1_i32_583
  let v805 : BitVec 32 := Scalar.addi c0_i32_584 v804
  v805.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v176 : BitVec 1 := Scalar.cmpi .ne v2 c2_i32_110
  let v177 : BitVec 32 := Scalar.extui v176
  let c0_i32_111 : BitVec 32 := 0#32
  let v178 : BitVec 1 := Scalar.cmpi .ne v177 c0_i32_111
  v178

def k0_off5 (d0 : Dev nD) : Fin 1 → Nat :=
  let c2_i32_101 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v161 : BitVec 32 := Scalar.subi c2_i32_101 v2
  let c8_i32_102 : BitVec 32 := 8#32
  let c0_i32_103 : BitVec 32 := 0#32
  let v162 : BitVec 1 := Scalar.cmpi .eq c8_i32_102 c0_i32_103
  let c1_i32_104 : BitVec 32 := 1#32
  let v163 : BitVec 32 := Scalar.select v162 c1_i32_104 c8_i32_102
  let v164 : BitVec 32 := Scalar.remsi v161 v163
  let c0_i32_106 : BitVec 32 := 0#32
  let v166 : BitVec 1 := Scalar.cmpi .slt v164 c0_i32_106
  let c0_i32_107 : BitVec 32 := 0#32
  let v167 : BitVec 1 := Scalar.cmpi .slt v163 c0_i32_107
  let v168 : BitVec 1 := Scalar.xori v166 v167
  let c0_i32_105 : BitVec 32 := 0#32
  let v165 : BitVec 1 := Scalar.cmpi .ne v164 c0_i32_105
  let v169 : BitVec 1 := Scalar.andi v168 v165
  let v170 : BitVec 32 := Scalar.addi v164 v163
  let v171 : BitVec 32 := Scalar.select v169 v170 v164
  ![v171.toNat]
def k0_off6 (d0 : Dev nD) : Fin 3 → Nat :=
  let c2_i32_101 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v161 : BitVec 32 := Scalar.subi c2_i32_101 v2
  let c8_i32_102 : BitVec 32 := 8#32
  let c0_i32_103 : BitVec 32 := 0#32
  let v162 : BitVec 1 := Scalar.cmpi .eq c8_i32_102 c0_i32_103
  let c1_i32_104 : BitVec 32 := 1#32
  let v163 : BitVec 32 := Scalar.select v162 c1_i32_104 c8_i32_102
  let v164 : BitVec 32 := Scalar.remsi v161 v163
  let c0_i32_106 : BitVec 32 := 0#32
  let v166 : BitVec 1 := Scalar.cmpi .slt v164 c0_i32_106
  let c0_i32_107 : BitVec 32 := 0#32
  let v167 : BitVec 1 := Scalar.cmpi .slt v163 c0_i32_107
  let v168 : BitVec 1 := Scalar.xori v166 v167
  let c0_i32_105 : BitVec 32 := 0#32
  let v165 : BitVec 1 := Scalar.cmpi .ne v164 c0_i32_105
  let v169 : BitVec 1 := Scalar.andi v168 v165
  let v170 : BitVec 32 := Scalar.addi v164 v163
  let v171 : BitVec 32 := Scalar.select v169 v170 v164
  let c0_i32_585 : BitVec 32 := 0#32
  let c0_i32_586 : BitVec 32 := 0#32
  ![v171.toNat, 0, 0]
def k0_dev10 : Nat :=
  let c0_i32_584 : BitVec 32 := 0#32
  let c2_i32_582 : BitVec 32 := 2#32
  let c1_i32_583 : BitVec 32 := 1#32
  let v804 : BitVec 32 := Scalar.muli c2_i32_582 c1_i32_583
  let v805 : BitVec 32 := Scalar.addi c0_i32_584 v804
  v805.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_123 : BitVec 32 := 3#32
  let v197 : BitVec 1 := Scalar.cmpi .ne v2 c3_i32_123
  let v198 : BitVec 32 := Scalar.extui v197
  let c0_i32_124 : BitVec 32 := 0#32
  let v199 : BitVec 1 := Scalar.cmpi .ne v198 c0_i32_124
  v199

def k0_off7 (d0 : Dev nD) : Fin 1 → Nat :=
  let c3_i32_114 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v182 : BitVec 32 := Scalar.subi c3_i32_114 v2
  let c8_i32_115 : BitVec 32 := 8#32
  let c0_i32_116 : BitVec 32 := 0#32
  let v183 : BitVec 1 := Scalar.cmpi .eq c8_i32_115 c0_i32_116
  let c1_i32_117 : BitVec 32 := 1#32
  let v184 : BitVec 32 := Scalar.select v183 c1_i32_117 c8_i32_115
  let v185 : BitVec 32 := Scalar.remsi v182 v184
  let c0_i32_119 : BitVec 32 := 0#32
  let v187 : BitVec 1 := Scalar.cmpi .slt v185 c0_i32_119
  let c0_i32_120 : BitVec 32 := 0#32
  let v188 : BitVec 1 := Scalar.cmpi .slt v184 c0_i32_120
  let v189 : BitVec 1 := Scalar.xori v187 v188
  let c0_i32_118 : BitVec 32 := 0#32
  let v186 : BitVec 1 := Scalar.cmpi .ne v185 c0_i32_118
  let v190 : BitVec 1 := Scalar.andi v189 v186
  let v191 : BitVec 32 := Scalar.addi v185 v184
  let v192 : BitVec 32 := Scalar.select v190 v191 v185
  ![v192.toNat]
def k0_off8 (d0 : Dev nD) : Fin 3 → Nat :=
  let c3_i32_114 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v182 : BitVec 32 := Scalar.subi c3_i32_114 v2
  let c8_i32_115 : BitVec 32 := 8#32
  let c0_i32_116 : BitVec 32 := 0#32
  let v183 : BitVec 1 := Scalar.cmpi .eq c8_i32_115 c0_i32_116
  let c1_i32_117 : BitVec 32 := 1#32
  let v184 : BitVec 32 := Scalar.select v183 c1_i32_117 c8_i32_115
  let v185 : BitVec 32 := Scalar.remsi v182 v184
  let c0_i32_119 : BitVec 32 := 0#32
  let v187 : BitVec 1 := Scalar.cmpi .slt v185 c0_i32_119
  let c0_i32_120 : BitVec 32 := 0#32
  let v188 : BitVec 1 := Scalar.cmpi .slt v184 c0_i32_120
  let v189 : BitVec 1 := Scalar.xori v187 v188
  let c0_i32_118 : BitVec 32 := 0#32
  let v186 : BitVec 1 := Scalar.cmpi .ne v185 c0_i32_118
  let v190 : BitVec 1 := Scalar.andi v189 v186
  let v191 : BitVec 32 := Scalar.addi v185 v184
  let v192 : BitVec 32 := Scalar.select v190 v191 v185
  let c0_i32_585 : BitVec 32 := 0#32
  let c0_i32_586 : BitVec 32 := 0#32
  ![v192.toNat, 0, 0]
def k0_dev11 : Nat :=
  let c0_i32_584 : BitVec 32 := 0#32
  let c3_i32_582 : BitVec 32 := 3#32
  let c1_i32_583 : BitVec 32 := 1#32
  let v804 : BitVec 32 := Scalar.muli c3_i32_582 c1_i32_583
  let v805 : BitVec 32 := Scalar.addi c0_i32_584 v804
  v805.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_141 : BitVec 32 := 4#32
  let v230 : BitVec 1 := Scalar.cmpi .ne v2 c4_i32_141
  let v231 : BitVec 32 := Scalar.extui v230
  let c0_i32_142 : BitVec 32 := 0#32
  let v232 : BitVec 1 := Scalar.cmpi .ne v231 c0_i32_142
  v232

def k0_off9 (d0 : Dev nD) : Fin 1 → Nat :=
  let c4_i32_132 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v215 : BitVec 32 := Scalar.subi c4_i32_132 v2
  let c8_i32_133 : BitVec 32 := 8#32
  let c0_i32_134 : BitVec 32 := 0#32
  let v216 : BitVec 1 := Scalar.cmpi .eq c8_i32_133 c0_i32_134
  let c1_i32_135 : BitVec 32 := 1#32
  let v217 : BitVec 32 := Scalar.select v216 c1_i32_135 c8_i32_133
  let v218 : BitVec 32 := Scalar.remsi v215 v217
  let c0_i32_137 : BitVec 32 := 0#32
  let v220 : BitVec 1 := Scalar.cmpi .slt v218 c0_i32_137
  let c0_i32_138 : BitVec 32 := 0#32
  let v221 : BitVec 1 := Scalar.cmpi .slt v217 c0_i32_138
  let v222 : BitVec 1 := Scalar.xori v220 v221
  let c0_i32_136 : BitVec 32 := 0#32
  let v219 : BitVec 1 := Scalar.cmpi .ne v218 c0_i32_136
  let v223 : BitVec 1 := Scalar.andi v222 v219
  let v224 : BitVec 32 := Scalar.addi v218 v217
  let v225 : BitVec 32 := Scalar.select v223 v224 v218
  ![v225.toNat]
def k0_off10 (d0 : Dev nD) : Fin 3 → Nat :=
  let c4_i32_132 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v215 : BitVec 32 := Scalar.subi c4_i32_132 v2
  let c8_i32_133 : BitVec 32 := 8#32
  let c0_i32_134 : BitVec 32 := 0#32
  let v216 : BitVec 1 := Scalar.cmpi .eq c8_i32_133 c0_i32_134
  let c1_i32_135 : BitVec 32 := 1#32
  let v217 : BitVec 32 := Scalar.select v216 c1_i32_135 c8_i32_133
  let v218 : BitVec 32 := Scalar.remsi v215 v217
  let c0_i32_137 : BitVec 32 := 0#32
  let v220 : BitVec 1 := Scalar.cmpi .slt v218 c0_i32_137
  let c0_i32_138 : BitVec 32 := 0#32
  let v221 : BitVec 1 := Scalar.cmpi .slt v217 c0_i32_138
  let v222 : BitVec 1 := Scalar.xori v220 v221
  let c0_i32_136 : BitVec 32 := 0#32
  let v219 : BitVec 1 := Scalar.cmpi .ne v218 c0_i32_136
  let v223 : BitVec 1 := Scalar.andi v222 v219
  let v224 : BitVec 32 := Scalar.addi v218 v217
  let v225 : BitVec 32 := Scalar.select v223 v224 v218
  let c0_i32_585 : BitVec 32 := 0#32
  let c0_i32_586 : BitVec 32 := 0#32
  ![v225.toNat, 0, 0]
def k0_dev12 : Nat :=
  let c0_i32_584 : BitVec 32 := 0#32
  let c4_i32_582 : BitVec 32 := 4#32
  let c1_i32_583 : BitVec 32 := 1#32
  let v804 : BitVec 32 := Scalar.muli c4_i32_582 c1_i32_583
  let v805 : BitVec 32 := Scalar.addi c0_i32_584 v804
  v805.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_154 : BitVec 32 := 5#32
  let v251 : BitVec 1 := Scalar.cmpi .ne v2 c5_i32_154
  let v252 : BitVec 32 := Scalar.extui v251
  let c0_i32_155 : BitVec 32 := 0#32
  let v253 : BitVec 1 := Scalar.cmpi .ne v252 c0_i32_155
  v253

def k0_off11 (d0 : Dev nD) : Fin 1 → Nat :=
  let c5_i32_145 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v236 : BitVec 32 := Scalar.subi c5_i32_145 v2
  let c8_i32_146 : BitVec 32 := 8#32
  let c0_i32_147 : BitVec 32 := 0#32
  let v237 : BitVec 1 := Scalar.cmpi .eq c8_i32_146 c0_i32_147
  let c1_i32_148 : BitVec 32 := 1#32
  let v238 : BitVec 32 := Scalar.select v237 c1_i32_148 c8_i32_146
  let v239 : BitVec 32 := Scalar.remsi v236 v238
  let c0_i32_150 : BitVec 32 := 0#32
  let v241 : BitVec 1 := Scalar.cmpi .slt v239 c0_i32_150
  let c0_i32_151 : BitVec 32 := 0#32
  let v242 : BitVec 1 := Scalar.cmpi .slt v238 c0_i32_151
  let v243 : BitVec 1 := Scalar.xori v241 v242
  let c0_i32_149 : BitVec 32 := 0#32
  let v240 : BitVec 1 := Scalar.cmpi .ne v239 c0_i32_149
  let v244 : BitVec 1 := Scalar.andi v243 v240
  let v245 : BitVec 32 := Scalar.addi v239 v238
  let v246 : BitVec 32 := Scalar.select v244 v245 v239
  ![v246.toNat]
def k0_off12 (d0 : Dev nD) : Fin 3 → Nat :=
  let c5_i32_145 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v236 : BitVec 32 := Scalar.subi c5_i32_145 v2
  let c8_i32_146 : BitVec 32 := 8#32
  let c0_i32_147 : BitVec 32 := 0#32
  let v237 : BitVec 1 := Scalar.cmpi .eq c8_i32_146 c0_i32_147
  let c1_i32_148 : BitVec 32 := 1#32
  let v238 : BitVec 32 := Scalar.select v237 c1_i32_148 c8_i32_146
  let v239 : BitVec 32 := Scalar.remsi v236 v238
  let c0_i32_150 : BitVec 32 := 0#32
  let v241 : BitVec 1 := Scalar.cmpi .slt v239 c0_i32_150
  let c0_i32_151 : BitVec 32 := 0#32
  let v242 : BitVec 1 := Scalar.cmpi .slt v238 c0_i32_151
  let v243 : BitVec 1 := Scalar.xori v241 v242
  let c0_i32_149 : BitVec 32 := 0#32
  let v240 : BitVec 1 := Scalar.cmpi .ne v239 c0_i32_149
  let v244 : BitVec 1 := Scalar.andi v243 v240
  let v245 : BitVec 32 := Scalar.addi v239 v238
  let v246 : BitVec 32 := Scalar.select v244 v245 v239
  let c0_i32_585 : BitVec 32 := 0#32
  let c0_i32_586 : BitVec 32 := 0#32
  ![v246.toNat, 0, 0]
def k0_dev13 : Nat :=
  let c0_i32_584 : BitVec 32 := 0#32
  let c5_i32_582 : BitVec 32 := 5#32
  let c1_i32_583 : BitVec 32 := 1#32
  let v804 : BitVec 32 := Scalar.muli c5_i32_582 c1_i32_583
  let v805 : BitVec 32 := Scalar.addi c0_i32_584 v804
  v805.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_172 : BitVec 32 := 6#32
  let v284 : BitVec 1 := Scalar.cmpi .ne v2 c6_i32_172
  let v285 : BitVec 32 := Scalar.extui v284
  let c0_i32_173 : BitVec 32 := 0#32
  let v286 : BitVec 1 := Scalar.cmpi .ne v285 c0_i32_173
  v286

def k0_off13 (d0 : Dev nD) : Fin 1 → Nat :=
  let c6_i32_163 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v269 : BitVec 32 := Scalar.subi c6_i32_163 v2
  let c8_i32_164 : BitVec 32 := 8#32
  let c0_i32_165 : BitVec 32 := 0#32
  let v270 : BitVec 1 := Scalar.cmpi .eq c8_i32_164 c0_i32_165
  let c1_i32_166 : BitVec 32 := 1#32
  let v271 : BitVec 32 := Scalar.select v270 c1_i32_166 c8_i32_164
  let v272 : BitVec 32 := Scalar.remsi v269 v271
  let c0_i32_168 : BitVec 32 := 0#32
  let v274 : BitVec 1 := Scalar.cmpi .slt v272 c0_i32_168
  let c0_i32_169 : BitVec 32 := 0#32
  let v275 : BitVec 1 := Scalar.cmpi .slt v271 c0_i32_169
  let v276 : BitVec 1 := Scalar.xori v274 v275
  let c0_i32_167 : BitVec 32 := 0#32
  let v273 : BitVec 1 := Scalar.cmpi .ne v272 c0_i32_167
  let v277 : BitVec 1 := Scalar.andi v276 v273
  let v278 : BitVec 32 := Scalar.addi v272 v271
  let v279 : BitVec 32 := Scalar.select v277 v278 v272
  ![v279.toNat]
def k0_off14 (d0 : Dev nD) : Fin 3 → Nat :=
  let c6_i32_163 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v269 : BitVec 32 := Scalar.subi c6_i32_163 v2
  let c8_i32_164 : BitVec 32 := 8#32
  let c0_i32_165 : BitVec 32 := 0#32
  let v270 : BitVec 1 := Scalar.cmpi .eq c8_i32_164 c0_i32_165
  let c1_i32_166 : BitVec 32 := 1#32
  let v271 : BitVec 32 := Scalar.select v270 c1_i32_166 c8_i32_164
  let v272 : BitVec 32 := Scalar.remsi v269 v271
  let c0_i32_168 : BitVec 32 := 0#32
  let v274 : BitVec 1 := Scalar.cmpi .slt v272 c0_i32_168
  let c0_i32_169 : BitVec 32 := 0#32
  let v275 : BitVec 1 := Scalar.cmpi .slt v271 c0_i32_169
  let v276 : BitVec 1 := Scalar.xori v274 v275
  let c0_i32_167 : BitVec 32 := 0#32
  let v273 : BitVec 1 := Scalar.cmpi .ne v272 c0_i32_167
  let v277 : BitVec 1 := Scalar.andi v276 v273
  let v278 : BitVec 32 := Scalar.addi v272 v271
  let v279 : BitVec 32 := Scalar.select v277 v278 v272
  let c0_i32_585 : BitVec 32 := 0#32
  let c0_i32_586 : BitVec 32 := 0#32
  ![v279.toNat, 0, 0]
def k0_dev14 : Nat :=
  let c0_i32_584 : BitVec 32 := 0#32
  let c6_i32_582 : BitVec 32 := 6#32
  let c1_i32_583 : BitVec 32 := 1#32
  let v804 : BitVec 32 := Scalar.muli c6_i32_582 c1_i32_583
  let v805 : BitVec 32 := Scalar.addi c0_i32_584 v804
  v805.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_185 : BitVec 32 := 7#32
  let v305 : BitVec 1 := Scalar.cmpi .ne v2 c7_i32_185
  let v306 : BitVec 32 := Scalar.extui v305
  let c0_i32_186 : BitVec 32 := 0#32
  let v307 : BitVec 1 := Scalar.cmpi .ne v306 c0_i32_186
  v307

def k0_off15 (d0 : Dev nD) : Fin 1 → Nat :=
  let c7_i32_176 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v290 : BitVec 32 := Scalar.subi c7_i32_176 v2
  let c8_i32_177 : BitVec 32 := 8#32
  let c0_i32_178 : BitVec 32 := 0#32
  let v291 : BitVec 1 := Scalar.cmpi .eq c8_i32_177 c0_i32_178
  let c1_i32_179 : BitVec 32 := 1#32
  let v292 : BitVec 32 := Scalar.select v291 c1_i32_179 c8_i32_177
  let v293 : BitVec 32 := Scalar.remsi v290 v292
  let c0_i32_181 : BitVec 32 := 0#32
  let v295 : BitVec 1 := Scalar.cmpi .slt v293 c0_i32_181
  let c0_i32_182 : BitVec 32 := 0#32
  let v296 : BitVec 1 := Scalar.cmpi .slt v292 c0_i32_182
  let v297 : BitVec 1 := Scalar.xori v295 v296
  let c0_i32_180 : BitVec 32 := 0#32
  let v294 : BitVec 1 := Scalar.cmpi .ne v293 c0_i32_180
  let v298 : BitVec 1 := Scalar.andi v297 v294
  let v299 : BitVec 32 := Scalar.addi v293 v292
  let v300 : BitVec 32 := Scalar.select v298 v299 v293
  ![v300.toNat]
def k0_off16 (d0 : Dev nD) : Fin 3 → Nat :=
  let c7_i32_176 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v290 : BitVec 32 := Scalar.subi c7_i32_176 v2
  let c8_i32_177 : BitVec 32 := 8#32
  let c0_i32_178 : BitVec 32 := 0#32
  let v291 : BitVec 1 := Scalar.cmpi .eq c8_i32_177 c0_i32_178
  let c1_i32_179 : BitVec 32 := 1#32
  let v292 : BitVec 32 := Scalar.select v291 c1_i32_179 c8_i32_177
  let v293 : BitVec 32 := Scalar.remsi v290 v292
  let c0_i32_181 : BitVec 32 := 0#32
  let v295 : BitVec 1 := Scalar.cmpi .slt v293 c0_i32_181
  let c0_i32_182 : BitVec 32 := 0#32
  let v296 : BitVec 1 := Scalar.cmpi .slt v292 c0_i32_182
  let v297 : BitVec 1 := Scalar.xori v295 v296
  let c0_i32_180 : BitVec 32 := 0#32
  let v294 : BitVec 1 := Scalar.cmpi .ne v293 c0_i32_180
  let v298 : BitVec 1 := Scalar.andi v297 v294
  let v299 : BitVec 32 := Scalar.addi v293 v292
  let v300 : BitVec 32 := Scalar.select v298 v299 v293
  let c0_i32_585 : BitVec 32 := 0#32
  let c0_i32_586 : BitVec 32 := 0#32
  ![v300.toNat, 0, 0]
def k0_dev15 : Nat :=
  let c0_i32_584 : BitVec 32 := 0#32
  let c7_i32_582 : BitVec 32 := 7#32
  let c1_i32_583 : BitVec 32 := 1#32
  let v804 : BitVec 32 := Scalar.muli c7_i32_582 c1_i32_583
  let v805 : BitVec 32 := Scalar.addi c0_i32_584 v804
  v805.toNat
def k0_dev16 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v319 : BitVec 32 := Scalar.addi v2 c1_i32_195
  let c8_i32_196 : BitVec 32 := 8#32
  let c0_i32_197 : BitVec 32 := 0#32
  let v320 : BitVec 1 := Scalar.cmpi .eq c8_i32_196 c0_i32_197
  let c1_i32_198 : BitVec 32 := 1#32
  let v321 : BitVec 32 := Scalar.select v320 c1_i32_198 c8_i32_196
  let v322 : BitVec 32 := Scalar.remsi v319 v321
  let c0_i32_200 : BitVec 32 := 0#32
  let v324 : BitVec 1 := Scalar.cmpi .slt v322 c0_i32_200
  let c0_i32_201 : BitVec 32 := 0#32
  let v325 : BitVec 1 := Scalar.cmpi .slt v321 c0_i32_201
  let v326 : BitVec 1 := Scalar.xori v324 v325
  let c0_i32_199 : BitVec 32 := 0#32
  let v323 : BitVec 1 := Scalar.cmpi .ne v322 c0_i32_199
  let v327 : BitVec 1 := Scalar.andi v326 v323
  let v328 : BitVec 32 := Scalar.addi v322 v321
  let v329 : BitVec 32 := Scalar.select v327 v328 v322
  let c1_i32_204 : BitVec 32 := 1#32
  let v330 : BitVec 32 := Scalar.muli v329 c1_i32_204
  let v331 : BitVec 32 := Scalar.addi c0_i32_205 v330
  v331.toNat
def k0_dev17 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_208 : BitVec 32 := 2#32
  let v337 : BitVec 32 := Scalar.addi v2 c2_i32_208
  let c8_i32_209 : BitVec 32 := 8#32
  let c0_i32_210 : BitVec 32 := 0#32
  let v338 : BitVec 1 := Scalar.cmpi .eq c8_i32_209 c0_i32_210
  let c1_i32_211 : BitVec 32 := 1#32
  let v339 : BitVec 32 := Scalar.select v338 c1_i32_211 c8_i32_209
  let v340 : BitVec 32 := Scalar.remsi v337 v339
  let c0_i32_213 : BitVec 32 := 0#32
  let v342 : BitVec 1 := Scalar.cmpi .slt v340 c0_i32_213
  let c0_i32_214 : BitVec 32 := 0#32
  let v343 : BitVec 1 := Scalar.cmpi .slt v339 c0_i32_214
  let v344 : BitVec 1 := Scalar.xori v342 v343
  let c0_i32_212 : BitVec 32 := 0#32
  let v341 : BitVec 1 := Scalar.cmpi .ne v340 c0_i32_212
  let v345 : BitVec 1 := Scalar.andi v344 v341
  let v346 : BitVec 32 := Scalar.addi v340 v339
  let v347 : BitVec 32 := Scalar.select v345 v346 v340
  let c1_i32_217 : BitVec 32 := 1#32
  let v348 : BitVec 32 := Scalar.muli v347 c1_i32_217
  let v349 : BitVec 32 := Scalar.addi c0_i32_218 v348
  v349.toNat
def k0_dev18 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_221 : BitVec 32 := 3#32
  let v355 : BitVec 32 := Scalar.addi v2 c3_i32_221
  let c8_i32_222 : BitVec 32 := 8#32
  let c0_i32_223 : BitVec 32 := 0#32
  let v356 : BitVec 1 := Scalar.cmpi .eq c8_i32_222 c0_i32_223
  let c1_i32_224 : BitVec 32 := 1#32
  let v357 : BitVec 32 := Scalar.select v356 c1_i32_224 c8_i32_222
  let v358 : BitVec 32 := Scalar.remsi v355 v357
  let c0_i32_226 : BitVec 32 := 0#32
  let v360 : BitVec 1 := Scalar.cmpi .slt v358 c0_i32_226
  let c0_i32_227 : BitVec 32 := 0#32
  let v361 : BitVec 1 := Scalar.cmpi .slt v357 c0_i32_227
  let v362 : BitVec 1 := Scalar.xori v360 v361
  let c0_i32_225 : BitVec 32 := 0#32
  let v359 : BitVec 1 := Scalar.cmpi .ne v358 c0_i32_225
  let v363 : BitVec 1 := Scalar.andi v362 v359
  let v364 : BitVec 32 := Scalar.addi v358 v357
  let v365 : BitVec 32 := Scalar.select v363 v364 v358
  let c1_i32_230 : BitVec 32 := 1#32
  let v366 : BitVec 32 := Scalar.muli v365 c1_i32_230
  let v367 : BitVec 32 := Scalar.addi c0_i32_231 v366
  v367.toNat
def k0_dev19 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_234 : BitVec 32 := 4#32
  let v373 : BitVec 32 := Scalar.addi v2 c4_i32_234
  let c8_i32_235 : BitVec 32 := 8#32
  let c0_i32_236 : BitVec 32 := 0#32
  let v374 : BitVec 1 := Scalar.cmpi .eq c8_i32_235 c0_i32_236
  let c1_i32_237 : BitVec 32 := 1#32
  let v375 : BitVec 32 := Scalar.select v374 c1_i32_237 c8_i32_235
  let v376 : BitVec 32 := Scalar.remsi v373 v375
  let c0_i32_239 : BitVec 32 := 0#32
  let v378 : BitVec 1 := Scalar.cmpi .slt v376 c0_i32_239
  let c0_i32_240 : BitVec 32 := 0#32
  let v379 : BitVec 1 := Scalar.cmpi .slt v375 c0_i32_240
  let v380 : BitVec 1 := Scalar.xori v378 v379
  let c0_i32_238 : BitVec 32 := 0#32
  let v377 : BitVec 1 := Scalar.cmpi .ne v376 c0_i32_238
  let v381 : BitVec 1 := Scalar.andi v380 v377
  let v382 : BitVec 32 := Scalar.addi v376 v375
  let v383 : BitVec 32 := Scalar.select v381 v382 v376
  let c1_i32_243 : BitVec 32 := 1#32
  let v384 : BitVec 32 := Scalar.muli v383 c1_i32_243
  let v385 : BitVec 32 := Scalar.addi c0_i32_244 v384
  v385.toNat
def k0_dev20 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_247 : BitVec 32 := 5#32
  let v391 : BitVec 32 := Scalar.addi v2 c5_i32_247
  let c8_i32_248 : BitVec 32 := 8#32
  let c0_i32_249 : BitVec 32 := 0#32
  let v392 : BitVec 1 := Scalar.cmpi .eq c8_i32_248 c0_i32_249
  let c1_i32_250 : BitVec 32 := 1#32
  let v393 : BitVec 32 := Scalar.select v392 c1_i32_250 c8_i32_248
  let v394 : BitVec 32 := Scalar.remsi v391 v393
  let c0_i32_252 : BitVec 32 := 0#32
  let v396 : BitVec 1 := Scalar.cmpi .slt v394 c0_i32_252
  let c0_i32_253 : BitVec 32 := 0#32
  let v397 : BitVec 1 := Scalar.cmpi .slt v393 c0_i32_253
  let v398 : BitVec 1 := Scalar.xori v396 v397
  let c0_i32_251 : BitVec 32 := 0#32
  let v395 : BitVec 1 := Scalar.cmpi .ne v394 c0_i32_251
  let v399 : BitVec 1 := Scalar.andi v398 v395
  let v400 : BitVec 32 := Scalar.addi v394 v393
  let v401 : BitVec 32 := Scalar.select v399 v400 v394
  let c1_i32_256 : BitVec 32 := 1#32
  let v402 : BitVec 32 := Scalar.muli v401 c1_i32_256
  let v403 : BitVec 32 := Scalar.addi c0_i32_257 v402
  v403.toNat
def k0_dev21 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_260 : BitVec 32 := 6#32
  let v409 : BitVec 32 := Scalar.addi v2 c6_i32_260
  let c8_i32_261 : BitVec 32 := 8#32
  let c0_i32_262 : BitVec 32 := 0#32
  let v410 : BitVec 1 := Scalar.cmpi .eq c8_i32_261 c0_i32_262
  let c1_i32_263 : BitVec 32 := 1#32
  let v411 : BitVec 32 := Scalar.select v410 c1_i32_263 c8_i32_261
  let v412 : BitVec 32 := Scalar.remsi v409 v411
  let c0_i32_265 : BitVec 32 := 0#32
  let v414 : BitVec 1 := Scalar.cmpi .slt v412 c0_i32_265
  let c0_i32_266 : BitVec 32 := 0#32
  let v415 : BitVec 1 := Scalar.cmpi .slt v411 c0_i32_266
  let v416 : BitVec 1 := Scalar.xori v414 v415
  let c0_i32_264 : BitVec 32 := 0#32
  let v413 : BitVec 1 := Scalar.cmpi .ne v412 c0_i32_264
  let v417 : BitVec 1 := Scalar.andi v416 v413
  let v418 : BitVec 32 := Scalar.addi v412 v411
  let v419 : BitVec 32 := Scalar.select v417 v418 v412
  let c1_i32_269 : BitVec 32 := 1#32
  let v420 : BitVec 32 := Scalar.muli v419 c1_i32_269
  let v421 : BitVec 32 := Scalar.addi c0_i32_270 v420
  v421.toNat
def k0_dev22 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_273 : BitVec 32 := 7#32
  let v427 : BitVec 32 := Scalar.addi v2 c7_i32_273
  let c8_i32_274 : BitVec 32 := 8#32
  let c0_i32_275 : BitVec 32 := 0#32
  let v428 : BitVec 1 := Scalar.cmpi .eq c8_i32_274 c0_i32_275
  let c1_i32_276 : BitVec 32 := 1#32
  let v429 : BitVec 32 := Scalar.select v428 c1_i32_276 c8_i32_274
  let v430 : BitVec 32 := Scalar.remsi v427 v429
  let c0_i32_278 : BitVec 32 := 0#32
  let v432 : BitVec 1 := Scalar.cmpi .slt v430 c0_i32_278
  let c0_i32_279 : BitVec 32 := 0#32
  let v433 : BitVec 1 := Scalar.cmpi .slt v429 c0_i32_279
  let v434 : BitVec 1 := Scalar.xori v432 v433
  let c0_i32_277 : BitVec 32 := 0#32
  let v431 : BitVec 1 := Scalar.cmpi .ne v430 c0_i32_277
  let v435 : BitVec 1 := Scalar.andi v434 v431
  let v436 : BitVec 32 := Scalar.addi v430 v429
  let v437 : BitVec 32 := Scalar.select v435 v436 v430
  let c1_i32_282 : BitVec 32 := 1#32
  let v438 : BitVec 32 := Scalar.muli v437 c1_i32_282
  let v439 : BitVec 32 := Scalar.addi c0_i32_283 v438
  v439.toNat
def k0_off17 (d0 : Dev nD) (c0_i32_334 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_333 : BitVec 32 := 8#32
  let v487 : BitVec 32 := Scalar.addi v2 c8_i32_333
  let v488 : BitVec 32 := Scalar.subi v487 c0_i32_334
  let c8_i32_335 : BitVec 32 := 8#32
  let c0_i32_336 : BitVec 32 := 0#32
  let v489 : BitVec 1 := Scalar.cmpi .eq c8_i32_335 c0_i32_336
  let c1_i32_337 : BitVec 32 := 1#32
  let v490 : BitVec 32 := Scalar.select v489 c1_i32_337 c8_i32_335
  let v491 : BitVec 32 := Scalar.remsi v488 v490
  let c0_i32_339 : BitVec 32 := 0#32
  let v493 : BitVec 1 := Scalar.cmpi .slt v491 c0_i32_339
  let c0_i32_340 : BitVec 32 := 0#32
  let v494 : BitVec 1 := Scalar.cmpi .slt v490 c0_i32_340
  let v495 : BitVec 1 := Scalar.xori v493 v494
  let c0_i32_338 : BitVec 32 := 0#32
  let v492 : BitVec 1 := Scalar.cmpi .ne v491 c0_i32_338
  let v496 : BitVec 1 := Scalar.andi v495 v492
  let v497 : BitVec 32 := Scalar.addi v491 v490
  let v498 : BitVec 32 := Scalar.select v496 v497 v491
  let c512_i32 : BitVec 32 := 512#32
  let v511 : BitVec 32 := Scalar.muli v498 c512_i32
  let v512 : Index := Scalar.indexCast v511
  let c0_346 : Index := 0#32
  ![v512.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Cells.lean ====
/-
The semaphores, the contents and the schedule of the fused matmul, quantize and all-to-all kernel.

Every device holds: one barrier semaphore, one copy semaphore, and eight semaphores each for sending and receiving data
and for sending and receiving maxima. Device arithmetic is that of `Fin 8`.

* `bar` of device `B`: seven units, one from each other device `B + s`, which hands over its receive slot `s` and row
  `s` of its table of maxima — the places `B` writes to on that device.
* `drecv s` of device `A`: the credit of one slot; it hands `A` its receive slot `s`, holding what device `A - s` sent.
* `arecv s` of device `A`: the credit of one row; it hands `A` row `s` of its table, holding the maximum of `A - s`.
* `dsend j`, `asend t`, `copy`: what the copy read comes back to the sender.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.ViewIndex
public import Idealize.ShloMosaic.Lib.Writes
public import Idealize.ShloMosaic.Lib.Tactic

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## Semaphores -/

abbrev barS : Sem sig := (SemArray.scalar (sig.barrier 0 rfl) : Sems sig S_).sem
abbrev cpS : DmaSem sig := ⟨3, by decide⟩
abbrev dsS (j : Fin 8) : DmaSem sig := ⟨4 + j.val, by have := j.isLt; show _ < 36; omega⟩
abbrev drS (s : Fin 8) : DmaSem sig := ⟨12 + s.val, by have := s.isLt; show _ < 36; omega⟩
abbrev asS (t : Fin 8) : DmaSem sig := ⟨20 + t.val, by have := t.isLt; show _ < 36; omega⟩
abbrev arS (s : Fin 8) : DmaSem sig := ⟨28 + s.val, by have := s.isLt; show _ < 36; omega⟩

abbrev barC (c : Dev nD) : GSem nD τ sig := ((c : Thread nD τ), .reg barS)
abbrev cpC (c : Dev nD) : GSem nD τ sig := ((c : Thread nD τ), .dma cpS)
abbrev dsC (c : Dev nD) (j : Fin 8) : GSem nD τ sig := ((c : Thread nD τ), .dma (dsS j))
abbrev drC (c : Dev nD) (s : Fin 8) : GSem nD τ sig := ((c : Thread nD τ), .dma (drS s))
abbrev asC (c : Dev nD) (t : Fin 8) : GSem nD τ sig := ((c : Thread nD τ), .dma (asS t))
abbrev arC (c : Dev nD) (s : Fin 8) : GSem nD τ sig := ((c : Thread nD τ), .dma (arS s))

/-- What a semaphore is for. -/
inductive Role
  | bar | copy | dsend (j : Fin 8) | drecv (s : Fin 8) | asend (t : Fin 8) | arecv (s : Fin 8) | other
  deriving DecidableEq

def roleD (n : ℕ) : Role :=
  if n < 3 then .other else if n = 3 then .copy
  else if n < 12 then .dsend (Fin.ofNat 8 (n - 4)) else if n < 20 then .drecv (Fin.ofNat 8 (n - 12))
  else if n < 28 then .asend (Fin.ofNat 8 (n - 20)) else .arecv (Fin.ofNat 8 (n - 28))

def role : SemLoc sig → Role
  | .reg _ => .bar
  | .dma q => roleD q.val

theorem role_bar : role (.reg barS) = .bar := rfl
theorem role_cp : role (.dma cpS) = .copy := rfl
theorem role_ds (j : Fin 8) : role (.dma (dsS j)) = .dsend j := by revert j; decide
theorem role_dr (s : Fin 8) : role (.dma (drS s)) = .drecv s := by revert s; decide
theorem role_as (t : Fin 8) : role (.dma (asS t)) = .asend t := by revert t; decide
theorem role_ar (s : Fin 8) : role (.dma (arS s)) = .arecv s := by revert s; decide

/-! ## Element sets -/

/-- The elements of slot `j` of a buffer of eight slots; the row `s` of the table; the rows of tile `r` of the result. -/
def slotNo (i : S8x512x256.Idx) : Fin 8 := i 0
def rowNo (i : S8x128.Idx) : Fin 8 := i 0
def sset (j : Fin 8) : Finset S8x512x256.Idx := Finset.univ.filter fun i => slotNo i = j
def aset (s : Fin 8) : Finset S8x128.Idx := Finset.univ.filter fun i => rowNo i = s
def tileNo (i : S4096x256.Idx) : Fin 8 := ⟨(i 0).val / 512, by have : (i 0).val < 4096 := (i 0).isLt; omega⟩
def oset (r : Fin 8) : Finset S4096x256.Idx := Finset.univ.filter fun i => tileNo i = r

theorem mem_sset {j : Fin 8} {i : S8x512x256.Idx} : i ∈ sset j ↔ slotNo i = j := by simp [sset]
theorem mem_aset {s : Fin 8} {i : S8x128.Idx} : i ∈ aset s ↔ rowNo i = s := by simp [aset]
theorem mem_oset {r : Fin 8} {i : S4096x256.Idx} : i ∈ oset r ↔ tileNo i = r := by simp [oset]

/-! ## Contents -/

abbrev xM : Memref sig .tc .vmem S512x4096 .f32 := Memref.whole cc0_stg0_0
abbrev wM : Memref sig .tc .vmem S4096x2048 .f32 := Memref.whole cc0_stg1_0
abbrev oM : Memref sig .tc .vmem S4096x256 .f32 := Memref.whole cc0_stg2_0
abbrev sM : Memref sig .tc .vmem S8x512x256 .bf16 := Memref.whole cc0_scratch0
abbrev rM : Memref sig .tc .vmem S8x512x256 .bf16 := Memref.whole cc0_scratch1
abbrev amM : Memref sig .tc .vmem S1x128 .f32 := Memref.whole cc0_scratch2
abbrev atM : Memref sig .tc .vmem S8x128 .f32 := Memref.whole cc0_scratch3

/-- Device `c`'s blocks of the two arguments. -/
def xb (c : Dev nD) : Vec F S512x4096 .f32 :=
  (win0_0.blk (0 : Fin 1)).view.read (Elt F) ((s₀ m ρ).mem ((c : Thread nD τ).loc main_arg0))
def wb (c : Dev nD) : Vec F S4096x2048 .f32 :=
  (win0_1.blk (0 : Fin 1)).view.read (Elt F) ((s₀ m ρ).mem ((c : Thread nD τ).loc main_arg1))

/-- The columns `off` to `off + 512` of the weights. -/
def wc0 (c : Dev nD) : Vec F S4096x512 .f32 :=
  wM.view.readAt (Elt F) (Rect.unit (s := S4096x2048) ![0, 0] S4096x512.size inb_S4096x2048_S4096x512_0_0).toLoadRect (wb m ρ c)
def wc1 (c : Dev nD) : Vec F S4096x512 .f32 :=
  wM.view.readAt (Elt F) (Rect.unit (s := S4096x2048) ![0, 512] S4096x512.size inb_S4096x2048_S4096x512_0_512).toLoadRect (wb m ρ c)
def wc2 (c : Dev nD) : Vec F S4096x512 .f32 :=
  wM.view.readAt (Elt F) (Rect.unit (s := S4096x2048) ![0, 1024] S4096x512.size inb_S4096x2048_S4096x512_0_1024).toLoadRect (wb m ρ c)
def wc3 (c : Dev nD) : Vec F S4096x512 .f32 :=
  wM.view.readAt (Elt F) (Rect.unit (s := S4096x2048) ![0, 1536] S4096x512.size inb_S4096x2048_S4096x512_0_1536).toLoadRect (wb m ρ c)

/-- The running maximum after each chunk. -/
def mx0 (c : Dev nD) : F .f32 := k0_pay3 (k0_pay1 (xb m ρ c)) (wc0 m ρ c)
def mx1 (c : Dev nD) : F .f32 := k0_pay8 (mx0 m ρ c) (xb m ρ c) (wc1 m ρ c)
def mx2 (c : Dev nD) : F .f32 := k0_pay13 (mx1 m ρ c) (xb m ρ c) (wc2 m ρ c)
def mx3 (c : Dev nD) : F .f32 := k0_pay18 (mx2 m ρ c) (xb m ρ c) (wc3 m ρ c)

/-- What device `c` stores in send slot `j`: the tile of its product meant for device `j`. -/
def tileOf (c : Dev nD) : Fin 8 → Vec F S1x512x256 .bf16
  | 0 => k0_pay5 (k0_pay1 (xb m ρ c)) (wc0 m ρ c)
  | 1 => k0_pay6 (k0_pay4 (k0_pay1 (xb m ρ c)) (wc0 m ρ c))
  | 2 => k0_pay10 (k0_pay9 (xb m ρ c) (wc1 m ρ c))
  | 3 => k0_pay11 (k0_pay9 (xb m ρ c) (wc1 m ρ c))
  | 4 => k0_pay15 (xb m ρ c) (wc2 m ρ c)
  | 5 => k0_pay16 (k0_pay14 (xb m ρ c) (wc2 m ρ c))
  | 6 => k0_pay20 (k0_pay19 (xb m ρ c) (wc3 m ρ c))
  | 7 => k0_pay22 (k0_pay21 (k0_pay19 (xb m ρ c) (wc3 m ρ c)))

/-- An index inside a slot, from an index of the buffer of slots. -/
def inSlot (i : S8x512x256.Idx) : S1x512x256.Idx := fun a => match a with
  | ⟨0, _⟩ => ⟨0, Nat.one_pos⟩
  | ⟨1, _⟩ => i 1
  | ⟨2, _⟩ => i 2
/-- An index inside a tile of the result, from an index of the result. -/
def inTile (i : S4096x256.Idx) : S512x256.Idx := fun a => match a with
  | ⟨0, _⟩ => ⟨(i 0).val % 512, Nat.mod_lt _ (by decide)⟩
  | ⟨1, _⟩ => i 1
def inRow (i : S8x128.Idx) : S1x128.Idx := fun a => match a with
  | ⟨0, _⟩ => ⟨0, Nat.one_pos⟩
  | ⟨1, _⟩ => i 1

/-- The send buffer, the receive buffer, the device's maximum, the table of maxima, when filled. -/
def sendB (c : Dev nD) : Vec F S8x512x256 .bf16 := fun i => tileOf m ρ c (slotNo i) (inSlot i)
def recvB (c : Dev nD) : Vec F S8x512x256 .bf16 := fun i => tileOf m ρ (c - slotNo i) c (inSlot i)
def amaxB (c : Dev nD) : Vec F S1x128 .f32 := k0_pay23 (mx3 m ρ c)
def tableB (c : Dev nD) : Vec F S8x128 .f32 := fun i => amaxB m ρ (c - rowNo i) (inRow i)

/-- The scale, the factor before rounding, the tile of the result that slot `t` gives, the result. -/
def scl (c : Dev nD) : F .f32 := k0_pay26 (tableB m ρ c)
def fac (c : Dev nD) : F .f32 := k0_pay27 (tableB m ρ c)
def outTile (c : Dev nD) (t : Fin 8) : Vec F S512x256 .f32 := k0_pay28 (scl m ρ c) (fac m ρ c) (tileOf m ρ (c - t) c)
def outB (c : Dev nD) : Vec F S4096x256 .f32 := fun i => outTile m ρ c (c - tileNo i) (inTile i)

/-! ## Ownership of the pieces -/

def sPts (c : Dev nD) (j : Fin 8) (f : Buf (Elt F) ((c : Thread nD τ).loc cc0_scratch0)) : sProp 𝕄 :=
  ((c : Thread nD τ).loc cc0_scratch0) ↦[sset j]{fullShare} f
def rPts (c : Dev nD) (s : Fin 8) (f : Buf (Elt F) ((c : Thread nD τ).loc cc0_scratch1)) : sProp 𝕄 :=
  ((c : Thread nD τ).loc cc0_scratch1) ↦[sset s]{fullShare} f
def mPts (c : Dev nD) (q : PosShare TreeShare) (f : Buf (Elt F) ((c : Thread nD τ).loc cc0_scratch2)) : sProp 𝕄 :=
  ((c : Thread nD τ).loc cc0_scratch2) ↦{q} f
def tPts (c : Dev nD) (s : Fin 8) (f : Buf (Elt F) ((c : Thread nD τ).loc cc0_scratch3)) : sProp 𝕄 :=
  ((c : Thread nD τ).loc cc0_scratch3) ↦[aset s]{fullShare} f
def oPts (c : Dev nD) (r : Fin 8) (f : Buf (Elt F) ((c : Thread nD τ).loc cc0_stg2_0)) : sProp 𝕄 :=
  ((c : Thread nD τ).loc cc0_stg2_0) ↦[oset r]{fullShare} f

/-- The same pieces at contents unknown. -/
def sAny (c : Dev nD) (j : Fin 8) : sProp 𝕄 := iprop(∃ f, sPts (F := F) c j f)
def rAny (c : Dev nD) (s : Fin 8) : sProp 𝕄 := iprop(∃ f, rPts (F := F) c s f)
def tAny (c : Dev nD) (s : Fin 8) : sProp 𝕄 := iprop(∃ f, tPts (F := F) c s f)
def oAny (c : Dev nD) (r : Fin 8) : sProp 𝕄 := iprop(∃ f, oPts (F := F) c r f)

/-- The share of the device's maximum that copy `t` reads. -/
abbrev lf (t : Fin 8) : PosShare TreeShare := leaf 3 fullShare t

/-! ## The schedule -/

abbrev Nd : ℕ := (rM.slice (Rect.unit (s := S8x512x256) ![0, 0, 0] S1x512x256.size inb_S8x512x256_S1x512x256_0_0_0) (fun _ => rfl)
  |>.squeeze S512x256 squeezes_S1x512x256_S512x256).view.dmaCredit
abbrev Na : ℕ := (atM.slice (Rect.unit (s := S8x128) ![0, 0] S1x128.size inb_S8x128_S1x128_0_0) (fun _ => rfl)).view.dmaCredit
theorem Nd_pos : 0 < Nd := View.dmaCredit_pos _ (by decide)
theorem Na_pos : 0 < Na := View.dmaCredit_pos _ (by decide)

def dutiesOf (c : Dev nD) : Role → Finset (Fin 8)
  | .bar => Finset.univ.erase 0
  | .copy => {0}
  | .dsend j => if j = c then ∅ else {0}
  | .drecv s => if s = 0 then ∅ else {0}
  | .asend t => if t = 0 then ∅ else {0}
  | .arecv s => if s = 0 then ∅ else {0}
  | .other => ∅

def amountOf : Role → ℕ
  | .bar => 1
  | .copy => Nd
  | .dsend _ => Nd
  | .drecv _ => Nd
  | .asend _ => Na
  | .arecv _ => Na
  | .other => 1

def gift (c : Dev nD) (s : Fin 8) : sProp 𝕄 := iprop(rAny (F := F) c s ∗ tAny (F := F) c s)

def payOf (c : Dev nD) : Role → Fin 8 → sProp 𝕄
  | .bar, s => gift (c + s) s
  | .copy, _ => iprop(sPts c c (sendB m ρ c) ∗ rPts c 0 (recvB m ρ c))
  | .dsend j, _ => sPts c j (sendB m ρ c)
  | .drecv s, _ => rPts c s (recvB m ρ c)
  | .asend t, _ => mPts c (lf t) (amaxB m ρ c)
  | .arecv s, _ => tPts c s (tableB m ρ c)
  | .other, _ => iprop(emp)

instance payOf_storable (c : Dev nD) (r : Role) (d : Fin 8) : BI.Storable (upEmb : UEmb _ 𝕄) (payOf (F := F) m ρ c r d) := by
  cases r <;> simp only [payOf, gift, rAny, tAny, sPts, rPts, mPts, tPts] <;> infer_instance

def Rd : Rounds.Schedule (GSem nD τ sig) (Fin 8) 𝕄 where
  duties g r := if r = 0 ∧ g.1.2 = .tc then dutiesOf g.1.1 (role g.2) else ∅
  amount g _ _ := amountOf (role g.2)
  payload g _ d := payOf m ρ g.1.1 (role g.2) d
  amount_pos g _ _ _ := by
    show 0 < amountOf (role g.2)
    cases role g.2 <;> simp only [amountOf] <;> first | exact Nat.one_pos | exact Nd_pos | exact Na_pos

instance Rd_storable (g : GSem nD τ sig) (r : ℕ) (d : Fin 8) : BI.Storable (upEmb : UEmb _ 𝕄) ((Rd (F := F) m ρ).payload g r d) :=
  payOf_storable m ρ g.1.1 (role g.2) d

theorem duties_at (c : Dev nD) (sm : SemLoc sig) : (Rd (F := F) m ρ).duties ((c : Thread nD τ), sm) 0 = dutiesOf c (role sm) := by
  dsimp only [Rd]; exact if_pos ⟨rfl, rfl⟩
theorem duties_later (g : GSem nD τ sig) : ∀ r, 1 ≤ r → (Rd (F := F) m ρ).duties g r = ∅ :=
  fun r hr => by dsimp only [Rd]; exact if_neg fun h => by omega
theorem amount_at (c : Dev nD) (sm : SemLoc sig) (d : Fin 8) : (Rd (F := F) m ρ).amount ((c : Thread nD τ), sm) 0 d = amountOf (role sm) := rfl
theorem payload_at (c : Dev nD) (sm : SemLoc sig) (d : Fin 8) : (Rd (F := F) m ρ).payload ((c : Thread nD τ), sm) 0 d = payOf m ρ c (role sm) d := rfl

/-- A cell with one duty: what a wait for it expects and hands over. -/
theorem expect_one (c : Dev nD) (sm : SemLoc sig) (h : dutiesOf c (role sm) = {0}) :
    (Rd (F := F) m ρ).expect ((c : Thread nD τ), sm) 0 = amountOf (role sm) := by
  unfold Schedule.expect Schedule.amountOf
  rw [duties_at, h, Finset.sum_singleton, amount_at]
theorem rest_one (c : Dev nD) (sm : SemLoc sig) (h : dutiesOf c (role sm) = {0}) :
    bigSep ((Rd (F := F) m ρ).duties ((c : Thread nD τ), sm) 0 \ ∅) (fun d => (Rd (F := F) m ρ).payload ((c : Thread nD τ), sm) 0 d) = payOf m ρ c (role sm) 0 := by
  rw [Finset.sdiff_empty, duties_at, h, bigSep_singleton, payload_at]
theorem expect_bar (c : Dev nD) : (Rd (F := F) m ρ).expect (barC c) 0 = 7 := by
  unfold Schedule.expect Schedule.amountOf
  rw [duties_at, Finset.sum_congr rfl fun d _ => amount_at m ρ c _ d, Finset.sum_const, role_bar]
  rfl

/-! ## What each device owes; the levels -/

abbrev bI (c : Dev nD) (t : Fin 8) : CellTallies nD τ sig Unit := tallyAt (barC (c + t)) () 1
def dI (c : Dev nD) (j : Fin 8) : CellTallies nD τ sig Unit := if j = c then 0 else tallyAt (drC j (j - c)) () Nd
abbrev aI (c : Dev nD) (t : Fin 8) : CellTallies nD τ sig Unit := tallyAt (arC (c + t) t) () Na

/-- What device `c` owes, in the order it pays. -/
def items (c : Dev nD) : List (CellTallies nD τ sig Unit) :=
  [bI c 1, bI c 2, bI c 3, bI c 4, bI c 5, bI c 6, bI c 7, dI c 0, dI c 1, dI c 2, dI c 3, dI c 4, dI c 5, dI c 6, dI c 7,
    aI c 1, aI c 2, aI c 3, aI c 4, aI c 5, aI c 6, aI c 7]
def total : List (CellTallies nD τ sig Unit) → CellTallies nD τ sig Unit
  | [] => 0
  | x :: l => total l + x
/-- What is still owed after the first `n` payments. -/
def left (c : Dev nD) (n : ℕ) : CellTallies nD τ sig Unit := total ((items c).drop n)

theorem total_pos {l : List (CellTallies nD τ sig Unit)} {g : GSem nD τ sig} {u : Unit} (h : 0 < total l g u) : ∃ x ∈ l, 0 < x g u := by
  induction l with
  | nil => exact absurd h (Nat.lt_irrefl 0)
  | cons x l ih =>
    have h' : 0 < total l g u + x g u := h
    rcases Nat.eq_zero_or_pos (x g u) with h0 | h0
    · obtain ⟨y, hy, hp⟩ := ih (by omega)
      exact ⟨y, List.mem_cons_of_mem _ hy, hp⟩
    · exact ⟨x, List.mem_cons_self, h0⟩

theorem tally_pos {g g' : GSem nD τ sig} {u : Unit} {k : ℕ} (h : 0 < tallyAt g' () k g u) : g = g' := by
  rw [tallyAt_apply] at h
  by_contra hn
  rw [if_neg (fun h' => hn h'.1)] at h
  exact Nat.lt_irrefl 0 h

def L (g : GSem nD τ sig) : Finset Unit := if g.1.2 = .tc then {()} else ∅
def lvR : Role → ℕ
  | .bar => 1
  | .drecv _ => 2
  | .arecv _ => 2
  | _ => 0
/-- Barrier cells at 1, receive cells at 2, all others at 0. -/
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

theorem bI_pos {c : Dev nD} {t : Fin 8} {g : GSem nD τ sig} {u : Unit} (h : 0 < bI c t g u) : u ∈ L g ∧ 1 ≤ lv g u := by
  rw [tally_pos h, L_tc]; exact ⟨Finset.mem_singleton_self _, le_refl 1⟩
theorem dI_pos {c : Dev nD} {j : Fin 8} {g : GSem nD τ sig} {u : Unit} (h : 0 < dI c j g u) : u ∈ L g ∧ 2 ≤ lv g u := by
  unfold dI at h
  split at h
  · exact absurd h (Nat.lt_irrefl 0)
  · rw [tally_pos h, L_tc]; refine ⟨Finset.mem_singleton_self _, ?_⟩
    unfold lv; rw [role_dr]; exact le_refl 2
theorem aI_pos {c : Dev nD} {t : Fin 8} {g : GSem nD τ sig} {u : Unit} (h : 0 < aI c t g u) : u ∈ L g ∧ 2 ≤ lv g u := by
  rw [tally_pos h, L_tc]; refine ⟨Finset.mem_singleton_self _, ?_⟩
  unfold lv; rw [role_ar]; exact le_refl 2

theorem left_pos {c : Dev nD} {n : ℕ} {g : GSem nD τ sig} {u : Unit} (h : 0 < left c n g u) : u ∈ L g ∧ 1 ≤ lv g u := by
  obtain ⟨x, hx, hp⟩ := total_pos h
  have hx' : x ∈ items c := List.mem_of_mem_drop hx
  simp only [items, List.mem_cons, List.not_mem_nil, or_false] at hx'
  rcases hx' with rfl | rfl | rfl | rfl | rfl | rfl | rfl | rfl | rfl | rfl | rfl | rfl | rfl | rfl | rfl | rfl | rfl | rfl | rfl | rfl | rfl | rfl <;>
    first
    | exact bI_pos hp
    | exact ⟨(dI_pos hp).1, by have := (dI_pos hp).2; omega⟩
    | exact ⟨(aI_pos hp).1, by have := (aI_pos hp).2; omega⟩
theorem left7_pos {c : Dev nD} {g : GSem nD τ sig} {u : Unit} (h : 0 < left c 7 g u) : u ∈ L g ∧ 2 ≤ lv g u := by
  obtain ⟨x, hx, hp⟩ := total_pos h
  simp only [items, List.drop_succ_cons, List.drop_zero, List.mem_cons, List.not_mem_nil, or_false] at hx
  rcases hx with rfl | rfl | rfl | rfl | rfl | rfl | rfl | rfl | rfl | rfl | rfl | rfl | rfl | rfl | rfl <;>
    first | exact dI_pos hp | exact aI_pos hp

theorem mayWait_low (c : Dev nD) (sm : SemLoc sig) (h : lvR (role sm) = 0) (n : ℕ) :
    (levAts L lv : sProp 𝕄) ⊢ MayWait (c : Thread nD τ) sm () (left c n) :=
  MayOwe.of_cut (L := L) (lev := lv) 0 (fun p hp => by rw [Finset.mem_singleton.mp hp, L_tc]; exact Finset.mem_singleton_self _)
    (fun g u hg => (left_pos hg).1)
    (fun p hp => by rw [Finset.mem_singleton.mp hp]; exact le_of_eq h)
    (fun g u hg => (left_pos hg).2)
theorem mayWait_bar (c : Dev nD) : (levAts L lv : sProp 𝕄) ⊢ MayWait (c : Thread nD τ) (.reg barS) () (left c 7) :=
  MayOwe.of_cut (L := L) (lev := lv) 1 (fun p hp => by rw [Finset.mem_singleton.mp hp, L_tc]; exact Finset.mem_singleton_self _)
    (fun g u hg => (left7_pos hg).1)
    (fun p hp => by rw [Finset.mem_singleton.mp hp]; exact le_refl 1)
    (fun g u hg => (left7_pos hg).2)

end Cert.Fused

end
-- ==== Proof.Views.lean ====
/-
The views through which the kernel reads and writes, by the elements they reach, and what each copy and store leaves.
-/
module

public import proofs.«01_k».proof.Proof.Cells
public import Idealize.ShloMosaic.Lib.Pipeline.Value

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

variable (m : (ℓ : Loc nD τ sig) → Buf (Elt F) ℓ) (ρ : Dev nD → PrngReg)

/-! ## Slots of the send and receive buffers -/

abbrev slotR (o : Fin 3 → ℕ) (h : ∀ a, o a + S1x512x256.size a ≤ S8x512x256.size a) : Rect S8x512x256 :=
  Rect.unit (s := S8x512x256) o S1x512x256.size h
abbrev slotV (b : Memref sig .tc .vmem S8x512x256 .bf16) (o : Fin 3 → ℕ) (h : ∀ a, o a + S1x512x256.size a ≤ S8x512x256.size a) :
    Memref sig .tc .vmem S512x256 .bf16 :=
  (b.slice (slotR o h) (fun _ => rfl)).squeeze S512x256 squeezes_S1x512x256_S512x256

theorem slotR_coord (j : Fin 8) {o : Fin 3 → ℕ} (ho : o = ![j.val, 0, 0]) (h) (y : S1x512x256.Idx) :
    slotNo ((slotR o h).emb y) = j ∧ inSlot ((slotR o h).emb y) = y := by
  subst ho
  have h0 : (y 0).val < 1 := (y 0).isLt
  constructor
  · apply Fin.ext
    show (((slotR ![j.val, 0, 0] h).emb y) 0).val = j.val
    rw [Rect.emb_apply]
    show j.val + 1 * (y 0).val = j.val
    omega
  · refine Shape.idx3_ext ?_ ?_ ?_
    · show 0 = (y 0).val
      omega
    · show (((slotR ![j.val, 0, 0] h).emb y) 1).val = (y 1).val
      rw [Rect.emb_apply]
      show 0 + 1 * (y 1).val = (y 1).val
      omega
    · show (((slotR ![j.val, 0, 0] h).emb y) 2).val = (y 2).val
      rw [Rect.emb_apply]
      show 0 + 1 * (y 2).val = (y 2).val
      omega

theorem slotR_set (j : Fin 8) {o : Fin 3 → ℕ} (ho : o = ![j.val, 0, 0]) (h) : (slotR o h).set = sset j := by
  ext i
  rw [mem_sset]
  constructor
  · intro hi
    obtain ⟨y, rfl⟩ := LoadRect.exists_idx_of_mem _ hi
    exact (slotR_coord j ho h y).1
  · intro hi
    subst hi
    subst ho
    rw [LoadRect.mem_set]
    intro a
    match a with
    | ⟨0, _⟩ => exact ⟨0, Nat.one_pos, by show (i 0).val = (i 0).val + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩

theorem sV_set (j : Fin 8) {o : Fin 3 → ℕ} (ho : o = ![j.val, 0, 0]) (h) : (slotV sM o h).view.set = sset j := by
  exact (View.set_reshape ((sM.slice (slotR o h) (fun _ => rfl)).view) _).trans ((View.set_slice_whole cc0_scratch0 (slotR o h)).trans (slotR_set j ho h))
theorem rV_set (j : Fin 8) {o : Fin 3 → ℕ} (ho : o = ![j.val, 0, 0]) (h) : (slotV rM o h).view.set = sset j := by
  exact (View.set_reshape ((rM.slice (slotR o h) (fun _ => rfl)).view) _).trans ((View.set_slice_whole cc0_scratch1 (slotR o h)).trans (slotR_set j ho h))
theorem sA_set (j : Fin 8) {o : Fin 3 → ℕ} (ho : o = ![j.val, 0, 0]) (h) : (sM.access (slotR o h)).set = sset j :=
  (View.set_slice_whole cc0_scratch0 (slotR o h)).trans (slotR_set j ho h)
theorem rA_set (j : Fin 8) {o : Fin 3 → ℕ} (ho : o = ![j.val, 0, 0]) (h) : (rM.access (slotR o h)).set = sset j :=
  (View.set_slice_whole cc0_scratch1 (slotR o h)).trans (slotR_set j ho h)

theorem sub_sub_self8 (j c : Fin 8) : j - (j - c) = c := by revert j c; decide
theorem add_sub_self8 (c t : Fin 8) : c + t - t = c := by revert c t; decide

/-- What a copy of send slot `j` of device `c` leaves in slot `j - c` of device `j`. -/
theorem data_landed (c j : Fin 8) {os od : Fin 3 → ℕ} (hos : os = ![j.val, 0, 0]) (hod : od = ![(j - c).val, 0, 0]) (hs) (hd)
    (fd : Vec F S8x512x256 .bf16) : ∀ i ∈ sset (j - c),
      (slotV rM od hd).view.write (Elt F) fd ((slotV sM os hs).view.read (Elt F) (sendB m ρ c)) Finset.univ i = recvB m ρ j i := by
  intro i hi
  rw [← rV_set (j - c) hod hd] at hi
  obtain ⟨x, -, rfl⟩ := Finset.mem_map.mp hi
  rw [View.write_emb_of_mem _ _ (Finset.mem_univ _)]
  show sendB m ρ c ((slotR os hs).emb (Shape.reshapeEquiv squeezes_S1x512x256_S512x256.numel_eq x))
    = recvB m ρ j ((slotR od hd).emb (Shape.reshapeEquiv squeezes_S1x512x256_S512x256.numel_eq x))
  unfold sendB recvB
  rw [(slotR_coord j hos hs _).1, (slotR_coord j hos hs _).2, (slotR_coord (j - c) hod hd _).1, (slotR_coord (j - c) hod hd _).2, sub_sub_self8]

/-- What the store of device `c`'s tile `j` leaves in send slot `j`. -/
theorem slot_stored (c j : Fin 8) {o : Fin 3 → ℕ} (ho : o = ![j.val, 0, 0]) (h) (f : Vec F S8x512x256 .bf16) : ∀ i ∈ sset j,
    (sM.access (slotR o h)).write (Elt F) f (tileOf m ρ c j) Finset.univ i = sendB m ρ c i := by
  intro i hi
  rw [← sA_set j ho h] at hi
  obtain ⟨y, -, rfl⟩ := Finset.mem_map.mp hi
  rw [View.write_emb_of_mem _ _ (Finset.mem_univ _)]
  show tileOf m ρ c j y = sendB m ρ c ((slotR o h).emb y)
  unfold sendB
  rw [(slotR_coord j ho h _).1, (slotR_coord j ho h _).2]

/-- What the load of receive slot `t` reads. -/
theorem slot_loaded (c t : Fin 8) {o : Fin 3 → ℕ} (ho : o = ![t.val, 0, 0]) (h) :
    rM.view.readAt (Elt F) (slotR o h).toLoadRect (recvB m ρ c) = tileOf m ρ (c - t) c := by
  funext y
  show recvB m ρ c ((slotR o h).emb y) = tileOf m ρ (c - t) c y
  unfold recvB
  rw [(slotR_coord t ho h _).1, (slotR_coord t ho h _).2]

/-! ## Rows of the table of maxima -/

abbrev rowR (o : Fin 2 → ℕ) (h : ∀ a, o a + S1x128.size a ≤ S8x128.size a) : Rect S8x128 := Rect.unit (s := S8x128) o S1x128.size h

theorem idx2_ext {d : Fin 2 → Nat} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

theorem rowR_coord (s : Fin 8) {o : Fin 2 → ℕ} (ho : o = ![s.val, 0]) (h) (y : S1x128.Idx) :
    rowNo ((rowR o h).emb y) = s ∧ inRow ((rowR o h).emb y) = y := by
  subst ho
  have h0 : (y 0).val < 1 := (y 0).isLt
  constructor
  · apply Fin.ext
    show (((rowR ![s.val, 0] h).emb y) 0).val = s.val
    rw [Rect.emb_apply]
    show s.val + 1 * (y 0).val = s.val
    omega
  · refine idx2_ext ?_ ?_
    · show 0 = (y 0).val
      omega
    · show (((rowR ![s.val, 0] h).emb y) 1).val = (y 1).val
      rw [Rect.emb_apply]
      show 0 + 1 * (y 1).val = (y 1).val
      omega

theorem rowR_set (s : Fin 8) {o : Fin 2 → ℕ} (ho : o = ![s.val, 0]) (h) : (rowR o h).set = aset s := by
  ext i
  rw [mem_aset]
  constructor
  · intro hi
    obtain ⟨y, rfl⟩ := LoadRect.exists_idx_of_mem _ hi
    exact (rowR_coord s ho h y).1
  · intro hi
    subst hi
    subst ho
    rw [LoadRect.mem_set]
    intro a
    match a with
    | ⟨0, _⟩ => exact ⟨0, Nat.one_pos, by show (i 0).val = (i 0).val + 1 * 0; omega⟩
    | ⟨1, _⟩ => exact ⟨(i 1).val, (i 1).isLt, by show (i 1).val = 0 + 1 * (i 1).val; omega⟩

theorem tA_set (s : Fin 8) {o : Fin 2 → ℕ} (ho : o = ![s.val, 0]) (h) : (atM.access (rowR o h)).set = aset s :=
  (View.set_slice_whole cc0_scratch3 (rowR o h)).trans (rowR_set s ho h)

/-- What the copy of device `c`'s maximum leaves in row `t` of device `c + t`. -/
theorem row_landed (c t : Fin 8) {o : Fin 2 → ℕ} (ho : o = ![t.val, 0]) (h) (fd : Vec F S8x128 .f32) : ∀ i ∈ aset t,
    (atM.slice (rowR o h) (fun _ => rfl)).view.write (Elt F) fd (amM.view.read (Elt F) (amaxB m ρ c)) Finset.univ i = tableB m ρ (c + t) i := by
  intro i hi
  rw [← tA_set t ho h] at hi
  obtain ⟨y, -, rfl⟩ := Finset.mem_map.mp hi
  refine (View.write_emb_of_mem (v := (atM.slice (rowR o h) (fun _ => rfl)).view) _ _ (Finset.mem_univ _)).trans ?_
  show amaxB m ρ c y = tableB m ρ (c + t) ((rowR o h).emb y)
  unfold tableB
  rw [(rowR_coord t ho h _).1, (rowR_coord t ho h _).2, add_sub_self8]

theorem hz2 : (![0, 0] : Fin 2 → Nat) = fun _ => 0 := funext fun a => by fin_cases a <;> rfl

abbrev amR : Rect S1x128 := Rect.unit (s := S1x128) ![0, 0] S1x128.size inb_S1x128_S1x128_0_0
theorem am_loaded (f : Vec F S1x128 .f32) : amM.view.readAt (Elt F) amR.toLoadRect f = f :=
  Memref.readAt_unit_zero (Elt F) cc0_scratch2 hz2 _ f
theorem am_stored (f w : Vec F S1x128 .f32) : (amM.access amR).write (Elt F) f w Finset.univ = w :=
  Memref.write_access_unit_zero_univ (Elt F) cc0_scratch2 hz2 _ f w
theorem table_loaded (f : Vec F S8x128 .f32) :
    atM.view.readAt (Elt F) (Rect.unit (s := S8x128) ![0, 0] S8x128.size inb_S8x128_S8x128_0_0).toLoadRect f = f :=
  Memref.readAt_unit_zero (Elt F) cc0_scratch3 hz2 _ f
theorem x_loaded (f : Vec F S512x4096 .f32) :
    xM.view.readAt (Elt F) (Rect.unit (s := S512x4096) ![0, 0] S512x4096.size inb_S512x4096_S512x4096_0_0).toLoadRect f = f :=
  Memref.readAt_unit_zero (Elt F) cc0_stg0_0 hz2 _ f

theorem pay24_eq (v : Vec F S1x128 .f32) : k0_pay24 v = v := by
  unfold k0_pay24
  exact shapeCast_self v _

/-- What the device's own store leaves in row 0. -/
theorem row_stored (c : Fin 8) {o : Fin 2 → ℕ} (ho : o = ![(0 : Fin 8).val, 0]) (h) (f : Vec F S8x128 .f32) : ∀ i ∈ aset 0,
    (atM.access (rowR o h)).write (Elt F) f (k0_pay24 (amaxB m ρ c)) Finset.univ i = tableB m ρ c i := by
  intro i hi
  rw [← tA_set 0 ho h] at hi
  obtain ⟨y, -, rfl⟩ := Finset.mem_map.mp hi
  rw [View.write_emb_of_mem _ _ (Finset.mem_univ _), pay24_eq]
  show amaxB m ρ c y = tableB m ρ c ((rowR o h).emb y)
  unfold tableB
  rw [(rowR_coord 0 ho h _).1, (rowR_coord 0 ho h _).2, show c - 0 = c from by revert c; decide]

/-! ## Tiles of the result -/

abbrev tileR (o : Fin 2 → ℕ) (h : ∀ a, o a + S512x256.size a ≤ S4096x256.size a) : Rect S4096x256 := Rect.unit (s := S4096x256) o S512x256.size h

theorem tileR_coord (r : Fin 8) {o : Fin 2 → ℕ} (ho : o = ![512 * r.val, 0]) (h) (y : S512x256.Idx) :
    tileNo ((tileR o h).emb y) = r ∧ inTile ((tileR o h).emb y) = y := by
  subst ho
  have h0 : (y 0).val < 512 := (y 0).isLt
  have e0 : (((tileR ![512 * r.val, 0] h).emb y) 0).val = 512 * r.val + (y 0).val := by
    rw [Rect.emb_apply]
    show 512 * r.val + 1 * (y 0).val = _
    omega
  constructor
  · apply Fin.ext
    show (((tileR ![512 * r.val, 0] h).emb y) 0).val / 512 = r.val
    rw [e0]; omega
  · refine idx2_ext ?_ ?_
    · show (((tileR ![512 * r.val, 0] h).emb y) 0).val % 512 = (y 0).val
      rw [e0]; omega
    · show (((tileR ![512 * r.val, 0] h).emb y) 1).val = (y 1).val
      rw [Rect.emb_apply]
      show 0 + 1 * (y 1).val = (y 1).val
      omega

theorem tileR_set (r : Fin 8) {o : Fin 2 → ℕ} (ho : o = ![512 * r.val, 0]) (h) : (tileR o h).set = oset r := by
  ext i
  rw [mem_oset]
  constructor
  · intro hi
    obtain ⟨y, rfl⟩ := LoadRect.exists_idx_of_mem _ hi
    exact (tileR_coord r ho h y).1
  · intro hi
    subst hi
    subst ho
    rw [LoadRect.mem_set]
    intro a
    match a with
    | ⟨0, _⟩ =>
      refine ⟨(i 0).val % 512, Nat.mod_lt _ (by decide), ?_⟩
      show (i 0).val = 512 * ((i 0).val / 512) + 1 * ((i 0).val % 512)
      omega
    | ⟨1, _⟩ => exact ⟨(i 1).val, (i 1).isLt, by show (i 1).val = 0 + 1 * (i 1).val; omega⟩

theorem oA_set (r : Fin 8) {o : Fin 2 → ℕ} (ho : o = ![512 * r.val, 0]) (h) : (oM.access (tileR o h)).set = oset r :=
  (View.set_slice_whole cc0_stg2_0 (tileR o h)).trans (tileR_set r ho h)

/-- What the store of tile `t` leaves in the result. -/
theorem tile_stored (c t : Fin 8) {o : Fin 2 → ℕ} (ho : o = ![512 * (c - t).val, 0]) (h) (f : Vec F S4096x256 .f32) : ∀ i ∈ oset (c - t),
    (oM.access (tileR o h)).write (Elt F) f (outTile m ρ c t) Finset.univ i = outB m ρ c i := by
  intro i hi
  rw [← oA_set (c - t) ho h] at hi
  obtain ⟨y, -, rfl⟩ := Finset.mem_map.mp hi
  rw [View.write_emb_of_mem _ _ (Finset.mem_univ _)]
  show outTile m ρ c t y = outB m ρ c ((tileR o h).emb y)
  unfold outB
  rw [(tileR_coord (c - t) ho h _).1, (tileR_coord (c - t) ho h _).2, sub_sub_self8]

/-! ## Device numbers and offsets in closed form -/

theorem dev1 (c : Dev nD) : (⟨k0_dev1 c, k0_dev1_lt c⟩ : Dev nD) = c + 1 := by revert c; decide +kernel
theorem dev2 (c : Dev nD) : (⟨k0_dev2 c, k0_dev2_lt c⟩ : Dev nD) = c + 2 := by revert c; decide +kernel
theorem dev3 (c : Dev nD) : (⟨k0_dev3 c, k0_dev3_lt c⟩ : Dev nD) = c + 3 := by revert c; decide +kernel
theorem dev4 (c : Dev nD) : (⟨k0_dev4 c, k0_dev4_lt c⟩ : Dev nD) = c + 4 := by revert c; decide +kernel
theorem dev5 (c : Dev nD) : (⟨k0_dev5 c, k0_dev5_lt c⟩ : Dev nD) = c + 5 := by revert c; decide +kernel
theorem dev6 (c : Dev nD) : (⟨k0_dev6 c, k0_dev6_lt c⟩ : Dev nD) = c + 6 := by revert c; decide +kernel
theorem dev7 (c : Dev nD) : (⟨k0_dev7 c, k0_dev7_lt c⟩ : Dev nD) = c + 7 := by revert c; decide +kernel
theorem dev16 (c : Dev nD) : (⟨k0_dev16 c, k0_dev16_lt c⟩ : Dev nD) = c + 1 := by revert c; decide +kernel
theorem dev17 (c : Dev nD) : (⟨k0_dev17 c, k0_dev17_lt c⟩ : Dev nD) = c + 2 := by revert c; decide +kernel
theorem dev18 (c : Dev nD) : (⟨k0_dev18 c, k0_dev18_lt c⟩ : Dev nD) = c + 3 := by revert c; decide +kernel
theorem dev19 (c : Dev nD) : (⟨k0_dev19 c, k0_dev19_lt c⟩ : Dev nD) = c + 4 := by revert c; decide +kernel
theorem dev20 (c : Dev nD) : (⟨k0_dev20 c, k0_dev20_lt c⟩ : Dev nD) = c + 5 := by revert c; decide +kernel
theorem dev21 (c : Dev nD) : (⟨k0_dev21 c, k0_dev21_lt c⟩ : Dev nD) = c + 6 := by revert c; decide +kernel
theorem dev22 (c : Dev nD) : (⟨k0_dev22 c, k0_dev22_lt c⟩ : Dev nD) = c + 7 := by revert c; decide +kernel

theorem cond_0 (c : Dev nD) : k0_cond1 c = 1#1 ↔ c ≠ 0 := by revert c; decide +kernel
theorem semOff_0 (c : Dev nD) (h : k0_cond1 c = 1#1) : k0_off1 c = ![(((0 : Fin 8) - c : Fin 8)).val] := by revert c; decide +kernel
theorem slotOff_0 (c : Dev nD) (h : k0_cond1 c = 1#1) : k0_off2 c = ![(((0 : Fin 8) - c : Fin 8)).val, 0, 0] := by revert c; decide +kernel
theorem tileOff_0 (c : Dev nD) : k0_off17 c 0#32 = ![512 * (c - (0 : Fin 8) : Fin 8).val, 0] := by revert c; decide +kernel
theorem cond_1 (c : Dev nD) : k0_cond3 c = 1#1 ↔ c ≠ 1 := by revert c; decide +kernel
theorem semOff_1 (c : Dev nD) (h : k0_cond3 c = 1#1) : k0_off3 c = ![(((1 : Fin 8) - c : Fin 8)).val] := by revert c; decide +kernel
theorem slotOff_1 (c : Dev nD) (h : k0_cond3 c = 1#1) : k0_off4 c = ![(((1 : Fin 8) - c : Fin 8)).val, 0, 0] := by revert c; decide +kernel
theorem tileOff_1 (c : Dev nD) : k0_off17 c 1#32 = ![512 * (c - (1 : Fin 8) : Fin 8).val, 0] := by revert c; decide +kernel
theorem cond_2 (c : Dev nD) : k0_cond5 c = 1#1 ↔ c ≠ 2 := by revert c; decide +kernel
theorem semOff_2 (c : Dev nD) (h : k0_cond5 c = 1#1) : k0_off5 c = ![(((2 : Fin 8) - c : Fin 8)).val] := by revert c; decide +kernel
theorem slotOff_2 (c : Dev nD) (h : k0_cond5 c = 1#1) : k0_off6 c = ![(((2 : Fin 8) - c : Fin 8)).val, 0, 0] := by revert c; decide +kernel
theorem tileOff_2 (c : Dev nD) : k0_off17 c 2#32 = ![512 * (c - (2 : Fin 8) : Fin 8).val, 0] := by revert c; decide +kernel
theorem cond_3 (c : Dev nD) : k0_cond7 c = 1#1 ↔ c ≠ 3 := by revert c; decide +kernel
theorem semOff_3 (c : Dev nD) (h : k0_cond7 c = 1#1) : k0_off7 c = ![(((3 : Fin 8) - c : Fin 8)).val] := by revert c; decide +kernel
theorem slotOff_3 (c : Dev nD) (h : k0_cond7 c = 1#1) : k0_off8 c = ![(((3 : Fin 8) - c : Fin 8)).val, 0, 0] := by revert c; decide +kernel
theorem tileOff_3 (c : Dev nD) : k0_off17 c 3#32 = ![512 * (c - (3 : Fin 8) : Fin 8).val, 0] := by revert c; decide +kernel
theorem cond_4 (c : Dev nD) : k0_cond9 c = 1#1 ↔ c ≠ 4 := by revert c; decide +kernel
theorem semOff_4 (c : Dev nD) (h : k0_cond9 c = 1#1) : k0_off9 c = ![(((4 : Fin 8) - c : Fin 8)).val] := by revert c; decide +kernel
theorem slotOff_4 (c : Dev nD) (h : k0_cond9 c = 1#1) : k0_off10 c = ![(((4 : Fin 8) - c : Fin 8)).val, 0, 0] := by revert c; decide +kernel
theorem tileOff_4 (c : Dev nD) : k0_off17 c 4#32 = ![512 * (c - (4 : Fin 8) : Fin 8).val, 0] := by revert c; decide +kernel
theorem cond_5 (c : Dev nD) : k0_cond11 c = 1#1 ↔ c ≠ 5 := by revert c; decide +kernel
theorem semOff_5 (c : Dev nD) (h : k0_cond11 c = 1#1) : k0_off11 c = ![(((5 : Fin 8) - c : Fin 8)).val] := by revert c; decide +kernel
theorem slotOff_5 (c : Dev nD) (h : k0_cond11 c = 1#1) : k0_off12 c = ![(((5 : Fin 8) - c : Fin 8)).val, 0, 0] := by revert c; decide +kernel
theorem tileOff_5 (c : Dev nD) : k0_off17 c 5#32 = ![512 * (c - (5 : Fin 8) : Fin 8).val, 0] := by revert c; decide +kernel
theorem cond_6 (c : Dev nD) : k0_cond13 c = 1#1 ↔ c ≠ 6 := by revert c; decide +kernel
theorem semOff_6 (c : Dev nD) (h : k0_cond13 c = 1#1) : k0_off13 c = ![(((6 : Fin 8) - c : Fin 8)).val] := by revert c; decide +kernel
theorem slotOff_6 (c : Dev nD) (h : k0_cond13 c = 1#1) : k0_off14 c = ![(((6 : Fin 8) - c : Fin 8)).val, 0, 0] := by revert c; decide +kernel
theorem tileOff_6 (c : Dev nD) : k0_off17 c 6#32 = ![512 * (c - (6 : Fin 8) : Fin 8).val, 0] := by revert c; decide +kernel
theorem cond_7 (c : Dev nD) : k0_cond15 c = 1#1 ↔ c ≠ 7 := by revert c; decide +kernel
theorem semOff_7 (c : Dev nD) (h : k0_cond15 c = 1#1) : k0_off15 c = ![(((7 : Fin 8) - c : Fin 8)).val] := by revert c; decide +kernel
theorem slotOff_7 (c : Dev nD) (h : k0_cond15 c = 1#1) : k0_off16 c = ![(((7 : Fin 8) - c : Fin 8)).val, 0, 0] := by revert c; decide +kernel
theorem tileOff_7 (c : Dev nD) : k0_off17 c 7#32 = ![512 * (c - (7 : Fin 8) : Fin 8).val, 0] := by revert c; decide +kernel

end Cert.Fused

end
-- ==== Proof.Steps.lean ====
/-
The cells' records, and one rule per kind of step of the kernel.
-/
module

public import proofs.«01_k».proof.Proof.Views

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells, their records, positions -/

/-- The semaphores that carry the schedule. -/
inductive Slot
  | bar | copy | ds (j : Fin 8) | dr (s : Fin 8) | sa (t : Fin 8) | ra (s : Fin 8)
  deriving DecidableEq

def slotList : List Slot :=
  [.bar, .copy, .ds 0, .ds 1, .ds 2, .ds 3, .ds 4, .ds 5, .ds 6, .ds 7, .dr 0, .dr 1, .dr 2, .dr 3, .dr 4, .dr 5, .dr 6, .dr 7,
    .sa 0, .sa 1, .sa 2, .sa 3, .sa 4, .sa 5, .sa 6, .sa 7, .ra 0, .ra 1, .ra 2, .ra 3, .ra 4, .ra 5, .ra 6, .ra 7]
instance : Fintype Slot where
  elems := slotList.toFinset
  complete := by
    intro k
    rcases k with _ | _ | j | j | j | j
    · decide
    · decide
    all_goals (revert j; decide)

@[reducible] def Slot.sm : Slot → SemLoc sig
  | .bar => .reg barS
  | .copy => .dma cpS
  | .ds j => .dma (dsS j)
  | .dr s => .dma (drS s)
  | .sa t => .dma (asS t)
  | .ra s => .dma (arS s)
abbrev cellAt (c : Dev nD) (k : Slot) : GSem nD τ sig := ((c : Thread nD τ), k.sm)

/-- Every cell's invariant, and that its first round is reached. -/
def records (K : Dev nD × Slot → ℕ) : sProp 𝕄 :=
  bigSep Finset.univ fun p : Dev nD × Slot => iprop(cellInv ER (Rd m ρ) (K p) (cellAt p.1 p.2) ∗ reached ER (cellAt p.1 p.2) 0)
instance records_persistent (K : Dev nD × Slot → ℕ) : BI.Persistent (records m ρ K) := by unfold records; infer_instance
def env (K : Dev nD × Slot → ℕ) : sProp 𝕄 := iprop(records m ρ K ∗ levAts L lv)
instance env_persistent (K : Dev nD × Slot → ℕ) : BI.Persistent (env m ρ K) := by unfold env; infer_instance

theorem elim_at {I : Type} [Fintype I] [DecidableEq I] (Φ : I → sProp 𝕄) (i : I) : (bigSep Finset.univ Φ : sProp 𝕄) ⊢ Φ i :=
  bigSep_elim (Finset.mem_univ i)
theorem env_inv (K : Dev nD × Slot → ℕ) (c : Dev nD) (k : Slot) : env m ρ K ⊢ cellInv ER (Rd m ρ) (K (c, k)) (cellAt c k) := by
  unfold env records
  iintro ⟨H, -⟩
  ihave H := (elim_at _ ((c, k) : Dev nD × Slot)) $$ H
  icases H with ⟨H, -⟩
  iexact H
theorem env_reached (K : Dev nD × Slot → ℕ) (c : Dev nD) (k : Slot) : env m ρ K ⊢ reached ER (cellAt c k) 0 := by
  unfold env records
  iintro ⟨H, -⟩
  ihave H := (elim_at _ ((c, k) : Dev nD × Slot)) $$ H
  icases H with ⟨-, H⟩
  iexact H
theorem env_lev (K : Dev nD × Slot → ℕ) : env m ρ K ⊢ (levAts L lv : sProp 𝕄) := by
  unfold env
  iintro ⟨-, H⟩
  iexact H

/-- What a device still owes, whatever it has waited for. -/
def ow (c : Dev nD) (n : ℕ) : sProp 𝕄 := iprop(∃ W, owes (c : Thread nD τ) (left c n) W)
/-- A cell at its first round, at its start. -/
def pos0 (c : Dev nD) (k : Slot) : sProp 𝕄 := atPos ER (cellAt c k) 0 ∅ 0
/-- A cell whose rounds are over. -/
def closed (c : Dev nD) (k : Slot) : sProp 𝕄 :=
  iprop(∃ R, ⌜∀ r, R ≤ r → (Rd (F := F) m ρ).duties (cellAt c k) r = ∅⌝ ∗ atPos ER (cellAt c k) R ∅ 0)
def tok (c : Dev nD) (k : Slot) (d : Fin 8) : sProp 𝕄 := dutyTok ER (cellAt c k) 0 d

theorem closed_of_unused (c : Dev nD) (k : Slot) (h : dutiesOf c (role k.sm) = ∅) : pos0 (F := F) c k ⊢ closed m ρ c k := by
  unfold pos0 closed
  iintro H
  iexists 0
  isplitr
  · ipureintro
    intro r _
    rcases Nat.eq_zero_or_pos r with rfl | hr
    · rw [duties_at, h]
    · exact duties_later m ρ _ r hr
  iexact H

theorem close (K : Dev nD × Slot → ℕ) (c : Dev nD) (k : Slot) :
    iprop(env m ρ K ∗ closed m ρ c k) ⊢ |={Set.univ}=> semVal (cellAt c k) 0 := by
  unfold closed
  iintro ⟨#HE, %R, %hR, Hat⟩
  iapply (Rounds.cell_close ER (Rd m ρ) (Set.mem_univ (K (c, k))) (fun h => h) (R := R) hR) $$ [Hat]
  isplitr
  · iapply (env_inv m ρ K c k); iexact HE
  iexact Hat

theorem wp_seq {α β : Type} {c : Dev nD} {P : sProp 𝕄} {p : Prog (TpuEff nD τ sig (Elt F) Λ₀ .tc) α} {R : α → sProp 𝕄} {k : α → Prog (TpuEff nD τ sig (Elt F) Λ₀ .tc) β} {Q : β → sProp 𝕄}
    (h : P ⊢ wp frame (wpE (defs₀ (F := F)) 𝒱₀ (c : Thread nD τ) none) Set.univ p R) : P ⊢ iprop((∀ a, R a -∗ wp frame (wpE (defs₀ (F := F)) 𝒱₀ (c : Thread nD τ) none) Set.univ (k a) Q) -∗ wp frame (wpE (defs₀ (F := F)) 𝒱₀ (c : Thread nD τ) none) Set.univ (p >>= k) Q) := by
  rw [wp_bind]
  exact h.trans (wp_wand _ _ _)

variable (K : Dev nD × Slot → ℕ)

/-! ## The barrier -/

theorem neg_ne : ∀ t : Fin 8, t ≠ 0 → -t ≠ 0 := by decide
theorem left_bar (c : Dev nD) (t : Fin 8) (ht : t ≠ 0) : left c (t.val - 1) = left c t.val + bI c t := by
  revert ht
  fin_cases t <;> intro ht <;> first | exact absurd rfl ht | rfl

theorem add_neg8 (c t : Fin 8) : c + t + -t = c := by revert c t; decide
theorem pay_bar (c : Dev nD) (t : Fin 8) : payOf m ρ (c + t) .bar (-t) = gift c (-t) := by
  show gift (c + t + -t) (-t) = _
  rw [add_neg8]

/-- The signal at distance `t`: the device hands over its slot and row at distance `-t`. -/
theorem signal_step {c : Dev nD} (t : Fin 8) (ht : t ≠ 0) {n : Dev nD} (hn : n = c + t) {amt : ℤ} (hamt : amt = 1)
    {α : Type} {Q : α → sProp 𝕄} {k : PUnit → Prog (TpuEff nD τ sig (Elt F) Λ₀ .tc) α} :
    iprop(env m ρ K ∗ ow c (t.val - 1) ∗ tok (c + t) .bar (-t) ∗ gift (F := F) c (-t))
      ⊢ iprop((ow c t.val -∗ wp frame (wpE (defs₀ (F := F)) 𝒱₀ (c : Thread nD τ) none) Set.univ (k ⟨⟩) Q) -∗ wp frame (wpE (defs₀ (F := F)) 𝒱₀ (c : Thread nD τ) none) Set.univ (.op (.semSignal (Dev.tc n : Thread nD τ) barS amt) k) Q) := by
  subst hn hamt
  unfold ow tok
  iintro ⟨#HE, ⟨%W, Ho⟩, Ht, Hg⟩ Hk
  iapply (Rounds.wp_signal 𝒱₀ ER (Rd m ρ) (c : Thread nD τ) none (dst := ((c + t : Dev nD) : Thread nD τ)) (κ := K (c + t, .bar))
      (d := -t) (by rw [duties_at]; exact Finset.mem_erase.mpr ⟨neg_ne t ht, Finset.mem_univ _⟩)
      ((amount_at m ρ (c + t) _ (-t)).trans (by rfl)) () (left c t.val) (left_bar c t ht)) $$ [Ho Ht Hg]
  · isplitr
    · iapply (env_inv m ρ K (c + t) .bar); iexact HE
    isplitl [Ho]; · iexact Ho
    isplitl [Ht]; · iexact Ht
    isplitl [Hg]
    · rw [payload_at, role_bar, pay_bar]
      iexact Hg
    · iapply (env_reached m ρ K (c + t) .bar); iexact HE
  iintro Ho
  iapply Hk
  iexists W; iexact Ho

def gifts (c : Dev nD) : sProp 𝕄 := bigSep (Finset.univ.erase 0) fun d : Fin 8 => gift (F := F) (c + d) d

theorem barrier_step {c : Dev nD} {amt : ℤ} (hamt : amt = 7) {α : Type} {Q : α → sProp 𝕄} {k : PUnit → Prog (TpuEff nD τ sig (Elt F) Λ₀ .tc) α} :
    iprop(env m ρ K ∗ cred (tallyAt (barC c) () 7) ∗ ow c 7 ∗ pos0 c .bar)
      ⊢ iprop(((ow c 7 ∗ closed m ρ c .bar ∗ gifts c) -∗ wp frame (wpE (defs₀ (F := F)) 𝒱₀ (c : Thread nD τ) none) Set.univ (k ⟨⟩) Q) -∗ wp frame (wpE (defs₀ (F := F)) 𝒱₀ (c : Thread nD τ) none) Set.univ (.op (.semWait barS amt) k) Q) := by
  subst hamt
  unfold ow pos0
  iintro ⟨#HE, Hc, ⟨%W, Ho⟩, Hat⟩ Hk
  iapply (Rounds.wp_wait_rest_token 𝒱₀ ER (Rd m ρ) (c : Thread nD τ) none (κ := K (c, .bar))
      (wpE_semWait_eq 𝒱₀ (c : Thread nD τ) none Set.univ) (Set.mem_univ _) () (O := left c 7) (W := W) (R := 0) (m := 0) (T := ∅)
      (by rw [expect_bar])) $$ [Hc Ho Hat]
  · isplitr; · iapply (env_inv m ρ K c .bar); iexact HE
    isplitl [Hc]; · iexact Hc
    isplitl [Ho]; · iexact Ho
    isplitr; · iapply (mayWait_bar c); iapply (env_lev m ρ K); iexact HE
    iexact Hat
  iintro ⟨Ho, Hat, -, Hp⟩
  iapply Hk
  isplitl [Ho]; · iexists _; iexact Ho
  isplitl [Hat]
  · unfold closed
    iexists _; isplitr
    · ipureintro; exact duties_later m ρ _
    iexact Hat
  unfold gifts
  rw [Finset.sdiff_empty, duties_at, role_bar]
  iexact Hp

/-! ## A wait for a cell with one duty -/

theorem wait_step {c : Dev nD} (k : Slot) (hd : dutiesOf c (role k.sm) = {0}) (n : ℕ)
    (hmw : (levAts L lv : sProp 𝕄) ⊢ MayWait (c : Thread nD τ) k.sm () (left c n))
    {N : ℕ} (hN : amountOf (role k.sm) = N) {q : DmaSem sig} (hq : k.sm = .dma q)
    {s₁ s₂ : Shape} {sp₁ sp₂ : Space} {e : EltTy} {src : Memref sig .tc sp₁ s₁ e} {dst : Memref sig .tc sp₂ s₂ e} {h₁ : src.view.WordExact} {h₂ : dst.view.WordExact}
    (hc : dst.view.dmaCredit = N) {α : Type} {Q : α → sProp 𝕄} {kk : PUnit → Prog (TpuEff nD τ sig (Elt F) Λ₀ .tc) α} :
    iprop(env m ρ K ∗ cred (tallyAt (cellAt c k) () N) ∗ ow c n ∗ pos0 c k)
      ⊢ iprop(((ow c n ∗ closed m ρ c k ∗ payOf m ρ c (role k.sm) 0) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 q src dst h₁ h₂) kk) Q) := by
  unfold ow pos0
  iintro ⟨#HE, Hc, ⟨%W, Ho⟩, Hat⟩ Hk
  have hx : (0 : ℕ) + dst.view.dmaCredit = (Rd (F := F) m ρ).expect (cellAt c k) 0 := by rw [Nat.zero_add, expect_one m ρ c k.sm hd, hc, hN]
  have hr := rest_one m ρ c k.sm hd
  have hl := duties_later m ρ (cellAt c k)
  ihave #HI := (env_inv m ρ K c k) $$ HE
  ihave #HL := (env_lev m ρ K) $$ HE
  ihave #HM := hmw $$ HL
  unfold closed
  subst hc
  generalize hg : role k.sm = rl at hr
  unfold cellAt at *
  rw [hq] at hx hr hl ⊢
  iapply (Rounds.wp_wait_rest_token 𝒱₀ ER (Rd m ρ) (c : Thread nD τ) none (κ := K (c, k)) (wpE_waitDma2_eq 𝒱₀ (c : Thread nD τ) none Set.univ)
      (Set.mem_univ _) () (O := left c n) (W := W) (R := 0) (m := 0) (T := ∅) hx) $$ [Hc Ho Hat]
  · isplitr; · iexact HI
    isplitl [Hc]; · iexact Hc
    isplitl [Ho]; · iexact Ho
    isplitr; · iexact HM
    iexact Hat
  iintro ⟨Ho, Hat, -, Hp⟩
  iapply Hk
  isplitl [Ho]; · iexists _; iexact Ho
  isplitl [Hat]
  · iexists _; isplitr
    · ipureintro; exact hl
    iexact Hat
  ihave Hp := (Entails.of_eq hr) $$ Hp
  iexact Hp

end Cert.Fused

end
-- ==== Proof.Moves.lean ====
/-
One rule per kind of access and per kind of transfer of the kernel.
-/
module

public import proofs.«01_k».proof.Proof.Steps

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores by number -/

theorem sem5 (s : Fin 8) {o : Fin 1 → ℕ} (ho : o = ![s.val]) (h) :
    ((cc0_scratch5.slice (Rect.unit (s := S8) o S1.size h)).squeeze S_ squeezes_S1_S_).sem = dsS s := by
  subst ho; revert s; decide +kernel
theorem sem6 (s : Fin 8) {o : Fin 1 → ℕ} (ho : o = ![s.val]) (h) :
    ((cc0_scratch6.slice (Rect.unit (s := S8) o S1.size h)).squeeze S_ squeezes_S1_S_).sem = drS s := by
  subst ho; revert s; decide +kernel
theorem sem7 (s : Fin 8) {o : Fin 1 → ℕ} (ho : o = ![s.val]) (h) :
    ((cc0_scratch7.slice (Rect.unit (s := S8) o S1.size h)).squeeze S_ squeezes_S1_S_).sem = asS s := by
  subst ho; revert s; decide +kernel
theorem sem8 (s : Fin 8) {o : Fin 1 → ℕ} (ho : o = ![s.val]) (h) :
    ((cc0_scratch8.slice (Rect.unit (s := S8) o S1.size h)).squeeze S_ squeezes_S1_S_).sem = arS s := by
  subst ho; revert s; decide +kernel
theorem sem4 : cc0_scratch4.sem = cpS := rfl

/-! ## Loads and stores -/

theorem setOn_whole (b : Ref sig .tc) (S : Finset b.ty.Idx) : (Memref.whole b).view.setOn S ⊆ S :=
  fun i hi => by
    obtain ⟨x, hx, rfl⟩ := Finset.mem_map.mp hi
    exact hx

theorem slot_load_any {c : Dev nD} {j : Fin 8} {o : Fin 3 → ℕ} (ho : o = ![j.val, 0, 0]) {h} {hl} {α : Type} {Q : α → sProp 𝕄} {k : Prog (TpuEff nD τ sig (Elt F) Λ₀ .tc) α} :
    sAny (F := F) c j ⊢ iprop((sAny c j -∗ wp frame (wpE (defs₀ (F := F)) 𝒱₀ (c : Thread nD τ) none) Set.univ k Q) -∗ wp frame (wpE (defs₀ (F := F)) 𝒱₀ (c : Thread nD τ) none) Set.univ (.op (.load sM (slotR o h).toLoadRect hl) (fun _ => k)) Q) := by
  unfold sAny sPts
  iintro ⟨%f, H⟩ Hk
  iapply (wp_load 𝒱₀ (c : Thread nD τ) none Set.univ (m := sM) ((setOn_whole cc0_scratch0 _).trans (slotR_set j ho h).subset)) $$ H
  iintro H
  iapply Hk
  iexists f; iexact H

theorem slot_store {c : Dev nD} {j : Fin 8} {o : Fin 3 → ℕ} (ho : o = ![j.val, 0, 0]) {h} {v : Vec F S1x512x256 .bf16} (hv : v = tileOf m ρ c j) {h₁ h₂}
    {α : Type} {Q : α → sProp 𝕄} {k : PUnit → Prog (TpuEff nD τ sig (Elt F) Λ₀ .tc) α} :
    sAny (F := F) c j ⊢ iprop((sPts c j (sendB m ρ c) -∗ wp frame (wpE (defs₀ (F := F)) 𝒱₀ (c : Thread nD τ) none) Set.univ (k ⟨⟩) Q) -∗ wp frame (wpE (defs₀ (F := F)) 𝒱₀ (c : Thread nD τ) none) Set.univ (.op (.store sM (slotR o h) v Finset.univ h₁ h₂) k) Q) := by
  subst hv
  unfold sAny sPts
  iintro ⟨%f, H⟩ Hk
  iapply (wp_store 𝒱₀ (c : Thread nD τ) none Set.univ (m := sM) (r := slotR o h) (Mk := Finset.univ) (S := sset j)
    (by rw [View.setOn_univ]; exact (sA_set j ho h).subset)) $$ H
  iintro H
  iapply Hk
  ihave H := (Entails.of_eq (pointsTo_congr (slot_stored m ρ c j ho h f))) $$ H
  iexact H

theorem recv_load {c : Dev nD} {t : Fin 8} {o : Fin 3 → ℕ} (ho : o = ![t.val, 0, 0]) {h} {hl} {α : Type} {Q : α → sProp 𝕄}
    {k : Vec F S1x512x256 .bf16 → Prog (TpuEff nD τ sig (Elt F) Λ₀ .tc) α} :
    rPts c t (recvB m ρ c) ⊢ iprop((rPts c t (recvB m ρ c) -∗ wp frame (wpE (defs₀ (F := F)) 𝒱₀ (c : Thread nD τ) none) Set.univ (k (tileOf m ρ (c - t) c)) Q)
      -∗ wp frame (wpE (defs₀ (F := F)) 𝒱₀ (c : Thread nD τ) none) Set.univ (.op (.load rM (slotR o h).toLoadRect hl) k) Q) := by
  unfold rPts
  iintro H Hk
  iapply (wp_load 𝒱₀ (c : Thread nD τ) none Set.univ (m := rM) ((setOn_whole cc0_scratch1 _).trans (slotR_set t ho h).subset)) $$ H
  rw [slot_loaded m ρ c t ho h]
  iexact Hk

theorem out_load_any {c : Dev nD} {r : Fin 8} {o : Fin 2 → ℕ} (ho : o = ![512 * r.val, 0]) {h} {hl} {α : Type} {Q : α → sProp 𝕄} {k : Prog (TpuEff nD τ sig (Elt F) Λ₀ .tc) α} :
    oAny (F := F) c r ⊢ iprop((oAny c r -∗ wp frame (wpE (defs₀ (F := F)) 𝒱₀ (c : Thread nD τ) none) Set.univ k Q) -∗ wp frame (wpE (defs₀ (F := F)) 𝒱₀ (c : Thread nD τ) none) Set.univ (.op (.load oM (tileR o h).toLoadRect hl) (fun _ => k)) Q) := by
  unfold oAny oPts
  iintro ⟨%f, H⟩ Hk
  iapply (wp_load 𝒱₀ (c : Thread nD τ) none Set.univ (m := oM) ((setOn_whole cc0_stg2_0 _).trans (tileR_set r ho h).subset)) $$ H
  iintro H
  iapply Hk
  iexists f; iexact H

theorem out_store {c : Dev nD} (t : Fin 8) {o : Fin 2 → ℕ} (ho : o = ![512 * (c - t).val, 0]) {h} {v : Vec F S512x256 .f32} (hv : v = outTile m ρ c t) {h₁ h₂}
    {α : Type} {Q : α → sProp 𝕄} {k : PUnit → Prog (TpuEff nD τ sig (Elt F) Λ₀ .tc) α} :
    oAny (F := F) c (c - t) ⊢ iprop((oPts c (c - t) (outB m ρ c) -∗ wp frame (wpE (defs₀ (F := F)) 𝒱₀ (c : Thread nD τ) none) Set.univ (k ⟨⟩) Q) -∗ wp frame (wpE (defs₀ (F := F)) 𝒱₀ (c : Thread nD τ) none) Set.univ (.op (.store oM (tileR o h) v Finset.univ h₁ h₂) k) Q) := by
  subst hv
  unfold oAny oPts
  iintro ⟨%f, H⟩ Hk
  iapply (wp_store 𝒱₀ (c : Thread nD τ) none Set.univ (m := oM) (r := tileR o h) (Mk := Finset.univ) (S := oset (c - t))
    (by rw [View.setOn_univ]; exact (oA_set (c - t) ho h).subset)) $$ H
  iintro H
  iapply Hk
  ihave H := (Entails.of_eq (pointsTo_congr (tile_stored m ρ c t ho h f))) $$ H
  iexact H

theorem row_load_any {c : Dev nD} {s : Fin 8} {o : Fin 2 → ℕ} (ho : o = ![s.val, 0]) {h} {hl} {α : Type} {Q : α → sProp 𝕄} {k : Prog (TpuEff nD τ sig (Elt F) Λ₀ .tc) α} :
    tAny (F := F) c s ⊢ iprop((tAny c s -∗ wp frame (wpE (defs₀ (F := F)) 𝒱₀ (c : Thread nD τ) none) Set.univ k Q) -∗ wp frame (wpE (defs₀ (F := F)) 𝒱₀ (c : Thread nD τ) none) Set.univ (.op (.load atM (rowR o h).toLoadRect hl) (fun _ => k)) Q) := by
  unfold tAny tPts
  iintro ⟨%f, H⟩ Hk
  iapply (wp_load 𝒱₀ (c : Thread nD τ) none Set.univ (m := atM) ((setOn_whole cc0_scratch3 _).trans (rowR_set s ho h).subset)) $$ H
  iintro H
  iapply Hk
  iexists f; iexact H

theorem row_store {c : Dev nD} {o : Fin 2 → ℕ} (ho : o = ![(0 : Fin 8).val, 0]) {h} {v : Vec F S1x128 .f32} (hv : v = amaxB m ρ c) {h₁ h₂}
    {α : Type} {Q : α → sProp 𝕄} {k : PUnit → Prog (TpuEff nD τ sig (Elt F) Λ₀ .tc) α} :
    tAny (F := F) c 0 ⊢ iprop((tPts c 0 (tableB m ρ c) -∗ wp frame (wpE (defs₀ (F := F)) 𝒱₀ (c : Thread nD τ) none) Set.univ (k ⟨⟩) Q)
      -∗ wp frame (wpE (defs₀ (F := F)) 𝒱₀ (c : Thread nD τ) none) Set.univ (.op (.store atM (rowR o h) (k0_pay24 v) Finset.univ h₁ h₂) k) Q) := by
  subst hv
  unfold tAny tPts
  iintro ⟨%f, H⟩ Hk
  iapply (wp_store 𝒱₀ (c : Thread nD τ) none Set.univ (m := atM) (r := rowR o h) (Mk := Finset.univ) (S := aset 0)
    (by rw [View.setOn_univ]; exact (tA_set 0 ho h).subset)) $$ H
  iintro H
  iapply Hk
  ihave H := (Entails.of_eq (pointsTo_congr (row_stored m ρ c ho h f))) $$ H
  iexact H

def mAny (c : Dev nD) : sProp 𝕄 := iprop(∃ f, mPts (F := F) c fullShare f)

theorem am_load_any {c : Dev nD} {hl} {α : Type} {Q : α → sProp 𝕄} {k : Prog (TpuEff nD τ sig (Elt F) Λ₀ .tc) α} :
    mAny (F := F) c ⊢ iprop((mAny c -∗ wp frame (wpE (defs₀ (F := F)) 𝒱₀ (c : Thread nD τ) none) Set.univ k Q) -∗ wp frame (wpE (defs₀ (F := F)) 𝒱₀ (c : Thread nD τ) none) Set.univ (.op (.load amM amR.toLoadRect hl) (fun _ => k)) Q) := by
  unfold mAny mPts
  iintro ⟨%f, H⟩ Hk
  iapply (wp_load 𝒱₀ (c : Thread nD τ) none Set.univ (m := amM) (Finset.subset_univ _)) $$ H
  iintro H
  iapply Hk
  iexists f; iexact H
theorem am_load {c : Dev nD} {f : Vec F S1x128 .f32} {hl} {α : Type} {Q : α → sProp 𝕄} {k : Vec F S1x128 .f32 → Prog (TpuEff nD τ sig (Elt F) Λ₀ .tc) α} :
    mPts (F := F) c fullShare f ⊢ iprop((mPts c fullShare f -∗ wp frame (wpE (defs₀ (F := F)) 𝒱₀ (c : Thread nD τ) none) Set.univ (k f) Q) -∗ wp frame (wpE (defs₀ (F := F)) 𝒱₀ (c : Thread nD τ) none) Set.univ (.op (.load amM amR.toLoadRect hl) k) Q) := by
  unfold mPts
  iintro H Hk
  iapply (wp_load 𝒱₀ (c : Thread nD τ) none Set.univ (m := amM) (Finset.subset_univ _)) $$ H
  rw [am_loaded]
  iexact Hk
theorem am_store {c : Dev nD} {v : Vec F S1x128 .f32} {h₁ h₂} {α : Type} {Q : α → sProp 𝕄} {k : PUnit → Prog (TpuEff nD τ sig (Elt F) Λ₀ .tc) α} :
    mAny (F := F) c ⊢ iprop((mPts c fullShare v -∗ wp frame (wpE (defs₀ (F := F)) 𝒱₀ (c : Thread nD τ) none) Set.univ (k ⟨⟩) Q) -∗ wp frame (wpE (defs₀ (F := F)) 𝒱₀ (c : Thread nD τ) none) Set.univ (.op (.store amM amR v Finset.univ h₁ h₂) k) Q) := by
  unfold mAny mPts
  iintro ⟨%f, H⟩ Hk
  iapply (wp_store 𝒱₀ (c : Thread nD τ) none Set.univ (m := amM) (r := amR) (Mk := Finset.univ) (Finset.subset_univ _)) $$ H
  rw [am_stored]
  iexact Hk

/-! ## The data spots -/

variable (K : Dev nD × Slot → ℕ)

theorem left_data (c : Dev nD) (j : Fin 8) : left c (7 + j.val) = left c (8 + j.val) + dI c j := by
  fin_cases j <;> rfl
theorem duties_ds {c : Dev nD} {j : Fin 8} (h : j ≠ c) : dutiesOf c (.dsend j) = {0} := if_neg h
theorem duties_dr {c : Dev nD} {s : Fin 8} (h : s ≠ 0) : dutiesOf c (.drecv s) = {0} := if_neg h
theorem duties_sa {c : Dev nD} {s : Fin 8} (h : s ≠ 0) : dutiesOf c (.asend s) = {0} := if_neg h
theorem duties_ra {c : Dev nD} {s : Fin 8} (h : s ≠ 0) : dutiesOf c (.arecv s) = {0} := if_neg h
theorem sub_self8 (j : Fin 8) : j - j = 0 := by revert j; decide
theorem sub_ne (j c : Fin 8) (h : j ≠ c) : j - c ≠ 0 := by revert j c; decide
theorem amount_rV (o) (h) : (slotV rM o h).view.dmaCredit = Nd := rfl
theorem amount_sV (o) (h) : (slotV sM o h).view.dmaCredit = Nd := rfl

theorem mayWait_none (c : Dev nD) (sm : SemLoc sig) : (levAts L lv : sProp 𝕄) ⊢ MayWait (c : Thread nD τ) sm () (left c 22) := by
  show _ ⊢ MayWait (c : Thread nD τ) sm () 0
  rw [MayWait_zero]; iintro -; iempintro

/-- What the copy to device `j` starts from and leaves. -/
def dPre (c : Dev nD) (j : Fin 8) : sProp 𝕄 :=
  iprop(rAny (F := F) j (j - c) ∗ tok c (.ds j) 0 ∗ tok j (.dr (j - c)) 0)
def dMid (c : Dev nD) (j : Fin 8) : sProp 𝕄 :=
  if j = c then iprop(sPts c c (sendB m ρ c) ∗ rAny (F := F) c 0) else cred (tallyAt (dsC c j) () Nd)
def dPost (c : Dev nD) (j : Fin 8) : sProp 𝕄 :=
  if j = c then sPts c c (sendB m ρ c) else cred (tallyAt (dsC c j) () Nd)
def cPre (c : Dev nD) (j : Fin 8) : sProp 𝕄 := if j = c then iprop(tok (F := F) c .copy 0 ∗ pos0 c .copy) else iprop(emp)
def cPost (c : Dev nD) (j : Fin 8) : sProp 𝕄 := if j = c then iprop(rPts c 0 (recvB m ρ c) ∗ closed m ρ c .copy) else iprop(emp)

theorem send_step {c : Dev nD} {j : Fin 8} (hj : j ≠ c) {n : Dev nD} (hn : n = j) {os od : Fin 3 → ℕ} (hos : os = ![j.val, 0, 0])
    (hod : od = ![(j - c).val, 0, 0]) {hs} {hd} {q₁ q₂ : DmaSem sig} (hq₁ : q₁ = dsS j) (hq₂ : q₂ = drS (j - c))
    {hsc : (slotV rM od hd : Memref sig (Dev.tc n : Thread nD τ).2.kind .vmem S512x256 .bf16).view.ref.isScScratch = false}
    {hsrc : (slotV sM os hs).view.WordExact} {hdst : (slotV rM od hd).view.WordExact}
    {hsem : DmaTarget.Typed .vmem (.dma q₂) (.remote (Dev.tc n : Thread nD τ) (slotV rM od hd) (.dma q₁) hsc)}
    {α : Type} {Q : α → sProp 𝕄} {k : PUnit → Prog (TpuEff nD τ sig (Elt F) Λ₀ .tc) α} :
    iprop(env m ρ K ∗ ow c (7 + j.val) ∗ sPts c j (sendB m ρ c) ∗ dPre c j)
      ⊢ iprop(((ow c (8 + j.val) ∗ cred (tallyAt (dsC c j) () Nd)) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (slotV sM os hs) (.remote (Dev.tc n : Thread nD τ) (slotV rM od hd) (.dma q₁) hsc) (.dma q₂) hsrc hdst hsem) k) Q) := by
  subst hn hq₁ hq₂
  unfold ow dPre rAny tok sPts rPts
  iintro ⟨#HE, ⟨%W, Ho⟩, Hs, ⟨%fd, Hr⟩, Ht1, Ht2⟩ Hk
  ihave Hs := (Entails.of_eq (congrArg (fun S => (((c : Thread nD τ).loc cc0_scratch0) ↦[S]{fullShare} (sendB m ρ c) : sProp 𝕄)) (sV_set n hos hs).symm)) $$ Hs
  ihave Hr := (Entails.of_eq (congrArg (fun S => (((n : Thread nD τ).loc cc0_scratch1) ↦[S]{fullShare} fd : sProp 𝕄)) (rV_set (n - c) hod hd).symm)) $$ Hr
  iapply (Rounds.wp_send_pointsTo 𝒱₀ ER (Rd m ρ) (c : Thread nD τ) none (c' := (n : Thread nD τ)) (src := slotV sM os hs) (dst := slotV rM od hd)
    (κ₁ := K (c, .ds n)) (κ₂ := K (n, .dr (n - c)))
    (r₁ := 0) (r₂ := 0) (d₁ := 0) (d₂ := 0) (fd := fd)
    (by rw [duties_at, role_ds, duties_ds hj]; exact Finset.mem_singleton_self _)
    (by rw [duties_at, role_dr, duties_dr (sub_ne _ _ hj)]; exact Finset.mem_singleton_self _)
    () () Nd rfl (by rw [amount_at, role_ds]; rfl) (by rw [amount_at, role_dr]; rfl) (O₀ := left c (7 + n.val)) (left c (8 + n.val))
    (by rw [left_data, dI, if_neg hj]) (W := W)
    (by rw [payload_at, role_ds]; exact Entails.of_eq (congrArg (fun S => (((c : Thread nD τ).loc cc0_scratch0) ↦[S]{fullShare} (sendB m ρ c) : sProp 𝕄)) (sV_set n hos hs)))
    (by
      rw [payload_at, role_dr]
      exact (Entails.of_eq (congrArg (fun S => (((n : Thread nD τ).loc cc0_scratch1) ↦[S]{fullShare} _ : sProp 𝕄)) (rV_set (n - c) hod hd))).trans
        (Entails.of_eq (pointsTo_congr (data_landed m ρ c n hos hod hs hd fd))))) $$ [Hs Hr Ho Ht1 Ht2]
  · isplitr; · iapply (env_inv m ρ K c (.ds n)); iexact HE
    isplitr; · iapply (env_inv m ρ K n (.dr (n - c))); iexact HE
    isplitl [Hs]; · iexact Hs
    isplitl [Hr]; · iexact Hr
    isplitl [Ho]; · iexact Ho
    isplitl [Ht1]; · iexact Ht1
    isplitr; · iapply (env_reached m ρ K c (.ds n)); iexact HE
    isplitl [Ht2]; · iexact Ht2
    iapply (env_reached m ρ K n (.dr (n - c))); iexact HE
  iintro ⟨Hc, Ho⟩
  iapply Hk
  isplitl [Ho]; · iexists W; iexact Ho
  iexact Hc

theorem send_if {c : Dev nD} {j : Fin 8} {b : Prop} [Decidable b] (hb : b ↔ c ≠ j) {n : b → Dev nD} (hn : ∀ h, n h = j) {os : Fin 3 → ℕ}
    {od : Fin 3 → ℕ} (hos : os = ![j.val, 0, 0]) (hod : b → od = ![(j - c).val, 0, 0]) {hs} {hd : b → _} {q₁ : DmaSem sig} {q₂ : b → DmaSem sig}
    (hq₁ : q₁ = dsS j) (hq₂ : ∀ h, q₂ h = drS (j - c))
    {hsc : ∀ h : b, (slotV rM od (hd h) : Memref sig (Dev.tc (n h) : Thread nD τ).2.kind .vmem S512x256 .bf16).view.ref.isScScratch = false}
    {hsrc : b → (slotV sM os hs).view.WordExact} {hdst : ∀ h : b, (slotV rM od (hd h)).view.WordExact}
    {hsem : ∀ h : b, DmaTarget.Typed .vmem (.dma (q₂ h)) (.remote (Dev.tc (n h) : Thread nD τ) (slotV rM od (hd h)) (.dma q₁) (hsc h))}
    {α : Type} {Q : α → sProp 𝕄} {k : Prog (TpuEff nD τ sig (Elt F) Λ₀ .tc) α} :
    iprop(env m ρ K ∗ ow c (7 + j.val) ∗ sPts c j (sendB m ρ c) ∗ dPre c j)
      ⊢ iprop(((ow c (8 + j.val) ∗ dMid m ρ c j) -∗ wp frame (wpE (defs₀ (F := F)) 𝒱₀ (c : Thread nD τ) none) Set.univ k Q)
        -∗ wp frame (wpE (defs₀ (F := F)) 𝒱₀ (c : Thread nD τ) none) Set.univ (if h : b then .op (.enqueueDma (slotV sM os hs) (.remote (Dev.tc (n h) : Thread nD τ) (slotV rM od (hd h)) (.dma q₁) (hsc h)) (.dma (q₂ h)) (hsrc h) (hdst h) (hsem h)) (fun _ => k) else k) Q) := by
  by_cases h : b
  · rw [dif_pos h]
    have hj : j ≠ c := fun e => hb.mp h e.symm
    unfold dMid
    rw [if_neg hj]
    exact send_step m ρ K hj (hn h) hos (hod h) hq₁ (hq₂ h) (k := fun _ => k)
  · rw [dif_neg h]
    have hj : j = c := by by_contra e; exact h (hb.mpr fun e' => e e'.symm)
    unfold dMid dPre ow
    rw [if_pos hj]
    subst hj
    rw [sub_self8 j]
    iintro ⟨-, ⟨%W, Ho⟩, Hs, Hr, -, -⟩ Hk
    iapply Hk
    isplitl [Ho]
    · iexists W
      rw [left_data, dI, if_pos rfl, add_zero]
      iexact Ho
    isplitl [Hs] <;> iassumption

theorem copy_if {c : Dev nD} {j : Fin 8} {b : Prop} [Decidable b] (hb : b ↔ c = j) {os or' ow' : Fin 3 → ℕ} (hos : os = ![j.val, 0, 0])
    (hor : or' = ![(0 : Fin 8).val, 0, 0]) {hs} {hr} {hw} {q : DmaSem sig} (hq : q = cpS)
    {hsrc : b → (slotV sM os hs).view.WordExact} {hdst : b → (slotV rM or' hr).view.WordExact}
    {hsem : b → DmaTarget.Typed .vmem (.dma q) (.here (slotV rM or' hr) : DmaTarget nD τ sig .tc .vmem S512x256 .bf16)} {h₁ : b → (slotV sM os hs).view.WordExact} {h₂ : b → (slotV rM ow' hw).view.WordExact}
    {n : ℕ} {α : Type} {Q : α → sProp 𝕄} {k : Prog (TpuEff nD τ sig (Elt F) Λ₀ .tc) α} :
    iprop(env m ρ K ∗ ow c n ∗ dMid m ρ c j ∗ cPre c j)
      ⊢ iprop(((ow c n ∗ dPost m ρ c j ∗ cPost m ρ c j) -∗ wp frame (wpE (defs₀ (F := F)) 𝒱₀ (c : Thread nD τ) none) Set.univ k Q)
        -∗ wp frame (wpE (defs₀ (F := F)) 𝒱₀ (c : Thread nD τ) none) Set.univ (if h : b then .op (.enqueueDma (slotV sM os hs) (.here (slotV rM or' hr)) (.dma q) (hsrc h) (hdst h) (hsem h))
          (fun _ => .op (.waitDma2 q (slotV sM os hs) (slotV rM ow' hw) (h₁ h) (h₂ h)) (fun _ => k)) else k) Q) := by
  by_cases h : b
  · rw [dif_pos h]
    have hj : j = c := (hb.mp h).symm
    unfold dMid dPost cPre cPost rAny tok sPts rPts
    rw [if_pos hj, if_pos hj, if_pos hj, if_pos hj]
    subst hj hq
    iintro ⟨#HE, Ho, ⟨Hs, ⟨%fd, Hr⟩⟩, Ht, Hp⟩ Hk
    ihave Hs := (Entails.of_eq (congrArg (fun S => (((j : Thread nD τ).loc cc0_scratch0) ↦[S]{fullShare} (sendB m ρ j) : sProp 𝕄)) (sV_set j hos hs).symm)) $$ Hs
    ihave Hr := (Entails.of_eq (congrArg (fun S => (((j : Thread nD τ).loc cc0_scratch1) ↦[S]{fullShare} fd : sProp 𝕄)) (rV_set 0 hor hr).symm)) $$ Hr
    have hor' : or' = ![(j - j : Fin 8).val, 0, 0] := by rw [hor, sub_self8 j]
    have hld := data_landed m ρ j j hos hor' hs hr fd
    rw [sub_self8 j] at hld
    iapply (Rounds.wp_copy_pointsTo 𝒱₀ ER (Rd m ρ) (j : Thread nD τ) none (src := slotV sM os hs) (dst := slotV rM or' hr)
      (κ := K (j, .copy)) (r := 0) (d := 0) (fd := fd)
      (by rw [duties_at, role_cp]; exact Finset.mem_singleton_self _)
      () Nd rfl (by rw [amount_at, role_cp]; rfl)
      (by
        rw [payload_at, role_cp]
        show _ ⊢ iprop(sPts j j (sendB m ρ j) ∗ rPts j 0 (recvB m ρ j))
        unfold sPts rPts
        iintro ⟨Hd, Hs⟩
        isplitl [Hs]
        · iapply (Entails.of_eq (congrArg (fun S => (((j : Thread nD τ).loc cc0_scratch0) ↦[S]{fullShare} (sendB m ρ j) : sProp 𝕄)) (sV_set j hos hs)))
          iexact Hs
        · iapply ((Entails.of_eq (congrArg (fun S => (((j : Thread nD τ).loc cc0_scratch1) ↦[S]{fullShare} _ : sProp 𝕄)) (rV_set 0 hor hr))).trans
            (Entails.of_eq (pointsTo_congr hld)))
          iexact Hd)) $$ [Hs Hr Ht]
    · isplitr; · iapply (env_inv m ρ K j .copy); iexact HE
      isplitl [Hs]; · iexact Hs
      isplitl [Hr]; · iexact Hr
      isplitl [Ht]; · iexact Ht
      iapply (env_reached m ρ K j .copy); iexact HE
    iintro Hc
    iapply (wait_step m ρ K .copy rfl n (mayWait_low j _ rfl n) (N := Nd) rfl rfl (amount_rV _ _)) $$ [Ho Hc Hp]
    · isplitr; · iexact HE
      isplitl [Hc]; · iexact Hc
      isplitl [Ho] <;> iassumption
    iintro ⟨Ho, Hcl, Hpay⟩
    ihave Hpay := (Entails.of_eq (show payOf m ρ j (role Slot.copy.sm) 0 = iprop(sPts j j (sendB m ρ j) ∗ rPts j 0 (recvB m ρ j)) from rfl)) $$ Hpay
    unfold sPts rPts
    icases Hpay with ⟨Hs, Hr⟩
    iapply Hk
    isplitl [Ho]; · iexact Ho
    isplitl [Hs]; · iexact Hs
    isplitl [Hr] <;> iassumption
  · rw [dif_neg h]
    have hj : j ≠ c := fun e => h (hb.mpr e.symm)
    unfold dMid dPost cPre cPost
    rw [if_neg hj, if_neg hj, if_neg hj, if_neg hj]
    iintro ⟨-, Ho, Hd, -⟩ Hk
    iapply Hk
    isplitl [Ho]; · iexact Ho
    isplitl [Hd]; · iexact Hd
    iempintro

/-- The wait for the copy to device `j`. -/
theorem sent_if {c : Dev nD} {j : Fin 8} {b : Prop} [Decidable b] (hb : b ↔ c ≠ j) {q : b → DmaSem sig} (hq : ∀ h, q h = dsS j)
    {os : Fin 3 → ℕ} {hs} {s : Shape} {sp : Space} {src : b → Memref sig .tc sp s .bf16} {h₁ : ∀ h : b, (src h).view.WordExact} {h₂ : b → (slotV sM os hs).view.WordExact}
    {α : Type} {Q : α → sProp 𝕄} {k : Prog (TpuEff nD τ sig (Elt F) Λ₀ .tc) α} :
    iprop(env m ρ K ∗ ow c 22 ∗ dPost m ρ c j ∗ pos0 c (.ds j))
      ⊢ iprop(((ow c 22 ∗ sPts c j (sendB m ρ c) ∗ closed m ρ c (.ds j)) -∗ wp frame (wpE (defs₀ (F := F)) 𝒱₀ (c : Thread nD τ) none) Set.univ k Q)
        -∗ wp frame (wpE (defs₀ (F := F)) 𝒱₀ (c : Thread nD τ) none) Set.univ (if h : b then .op (.waitDma2 (q h) (src h) (slotV sM os hs) (h₁ h) (h₂ h)) (fun _ => k) else k) Q) := by
  by_cases h : b
  · rw [dif_pos h]
    have hj : j ≠ c := fun e => hb.mp h e.symm
    unfold dPost
    rw [if_neg hj]
    have hw := wait_step m ρ K (c := c) (.ds j) (by rw [role_ds]; exact duties_ds hj) 22 (mayWait_none c _) (N := Nd) (by rw [role_ds]; rfl)
      (q := q h) (by rw [hq h]) (src := src h) (h₁ := h₁ h) (h₂ := h₂ h) (Q := Q) (kk := fun _ => k) (dst := slotV sM os hs) (amount_sV _ _)
    rw [role_ds] at hw
    iintro ⟨#HE, Ho, Hc, Hp⟩ Hk
    iapply hw $$ [Ho Hc Hp]
    · isplitr; · iexact HE
      isplitl [Hc]; · iexact Hc
      isplitl [Ho] <;> iassumption
    iintro ⟨Ho, Hcl, Hs⟩
    ihave Hs := (Entails.of_eq (show payOf m ρ c (.dsend j) 0 = sPts c j (sendB m ρ c) from rfl)) $$ Hs
    iapply Hk
    isplitl [Ho]; · iexact Ho
    isplitl [Hs]; · iexact Hs
    iexact Hcl
  · rw [dif_neg h]
    have hj : j = c := by by_contra e; exact h (hb.mpr fun e' => e e'.symm)
    unfold dPost
    rw [if_pos hj]
    iintro ⟨-, Ho, Hs, Hp⟩ Hk
    iapply Hk
    isplitl [Ho]; · iexact Ho
    isplitl [Hs]
    · rw [hj]; iexact Hs
    iapply (closed_of_unused m ρ c (.ds j) (by rw [role_ds]; exact if_pos hj)); iexact Hp

/-! ## The maxima -/

theorem left_max (c : Dev nD) (t : Fin 8) (ht : t ≠ 0) : left c (14 + t.val) = left c (15 + t.val) + aI c t := by
  revert ht
  fin_cases t <;> intro ht <;> first | exact absurd rfl ht | rfl

def aPre (c : Dev nD) (t : Fin 8) : sProp 𝕄 :=
  iprop(mPts c (lf t) (amaxB m ρ c) ∗ tAny (F := F) (c + t) t ∗ tok c (.sa t) 0 ∗ tok (c + t) (.ra t) 0)

theorem max_send {c : Dev nD} (t : Fin 8) (ht : t ≠ 0) {n : Dev nD} (hn : n = c + t) {o : Fin 2 → ℕ} (ho : o = ![t.val, 0]) {hd}
    {q₁ q₂ : DmaSem sig} (hq₁ : q₁ = asS t) (hq₂ : q₂ = arS t)
    {hsc : ((atM.slice (rowR o hd) (fun _ => rfl)) : Memref sig (Dev.tc n : Thread nD τ).2.kind .vmem S1x128 .f32).view.ref.isScScratch = false}
    {hsrc : amM.view.WordExact} {hdst : (atM.slice (rowR o hd) (fun _ => rfl)).view.WordExact}
    {hsem : DmaTarget.Typed .vmem (.dma q₂) (.remote (Dev.tc n : Thread nD τ) (atM.slice (rowR o hd) (fun _ => rfl)) (.dma q₁) hsc)}
    {α : Type} {Q : α → sProp 𝕄} {k : PUnit → Prog (TpuEff nD τ sig (Elt F) Λ₀ .tc) α} :
    iprop(env m ρ K ∗ ow c (14 + t.val) ∗ aPre m ρ c t)
      ⊢ iprop(((ow c (15 + t.val) ∗ cred (tallyAt (asC c t) () Na)) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma amM (.remote (Dev.tc n : Thread nD τ) (atM.slice (rowR o hd) (fun _ => rfl)) (.dma q₁) hsc) (.dma q₂) hsrc hdst hsem) k) Q) := by
  subst hn hq₁ hq₂
  unfold ow aPre tAny tok tPts mPts
  iintro ⟨#HE, ⟨%W, Ho⟩, Hs, ⟨%fd, Hr⟩, Ht1, Ht2⟩ Hk
  have hset : (atM.slice (rowR o hd) (fun _ => rfl)).view.set = aset t := tA_set t ho hd
  ihave Hr := (Entails.of_eq (congrArg (fun S => ((((c + t : Dev nD) : Thread nD τ).loc cc0_scratch3) ↦[S]{fullShare} fd : sProp 𝕄)) hset.symm)) $$ Hr
  have hms : amM.view.set = Finset.univ := View.set_whole _
  iapply (Rounds.wp_send_pointsTo 𝒱₀ ER (Rd m ρ) (c : Thread nD τ) none (c' := ((c + t : Dev nD) : Thread nD τ)) (src := amM)
    (dst := (atM.slice (rowR o hd) (fun _ => rfl))) (κ₁ := K (c, .sa t)) (κ₂ := K (c + t, .ra t))
    (r₁ := 0) (r₂ := 0) (d₁ := 0) (d₂ := 0) (fd := fd) (q := lf t) (fs := amaxB m ρ c)
    (by rw [duties_at, role_as, duties_sa ht]; exact Finset.mem_singleton_self _)
    (by rw [duties_at, role_ar, duties_ra ht]; exact Finset.mem_singleton_self _)
    () () Na rfl (by rw [amount_at, role_as]; rfl) (by rw [amount_at, role_ar]; rfl) (left c (15 + t.val))
    (left_max c t ht) (W := W)
    (by rw [payload_at, role_as]; unfold payOf mPts; rw [hms])
    (by
      rw [payload_at, role_ar]
      exact (Entails.of_eq (congrArg (fun S => ((((c + t : Dev nD) : Thread nD τ).loc cc0_scratch3) ↦[S]{fullShare} _ : sProp 𝕄)) hset)).trans
        (Entails.of_eq (pointsTo_congr (row_landed m ρ c t ho hd fd))))) $$ [Hs Hr Ho Ht1 Ht2]
  · isplitr; · iapply (env_inv m ρ K c (.sa t)); iexact HE
    isplitr; · iapply (env_inv m ρ K (c + t) (.ra t)); iexact HE
    isplitl [Hs]; · rw [hms]; iexact Hs
    isplitl [Hr]; · iexact Hr
    isplitl [Ho]; · iexact Ho
    isplitl [Ht1]; · iexact Ht1
    isplitr; · iapply (env_reached m ρ K c (.sa t)); iexact HE
    isplitl [Ht2]; · iexact Ht2
    iapply (env_reached m ρ K (c + t) (.ra t)); iexact HE
  iintro ⟨Hc, Ho⟩
  iapply Hk
  isplitl [Ho]; · iexists W; iexact Ho
  iexact Hc

/-- The waits for a maximum sent, a maximum received, a slot received. -/
theorem sentMax_wait {c : Dev nD} (t : Fin 8) (ht : t ≠ 0) {q : DmaSem sig} (hq : q = asS t) {s : Shape} {sp : Space} {src : Memref sig .tc sp s .f32}
    {h₁ : src.view.WordExact} {h₂ : amM.view.WordExact} {α : Type} {Q : α → sProp 𝕄} {k : PUnit → Prog (TpuEff nD τ sig (Elt F) Λ₀ .tc) α} :
    iprop(env m ρ K ∗ cred (tallyAt (asC c t) () Na) ∗ ow c 22 ∗ pos0 c (.sa t))
      ⊢ iprop(((ow c 22 ∗ closed m ρ c (.sa t) ∗ mPts c (lf t) (amaxB m ρ c)) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q src amM h₁ h₂) k) Q) := by
  have h := wait_step m ρ K (c := c) (.sa t) (by rw [role_as]; exact duties_sa ht) 22 (mayWait_none c _) (N := Na) (by rw [role_as]; rfl)
    (q := q) (by rw [hq]) (src := src) (h₁ := h₁) (h₂ := h₂) (Q := Q) (kk := k) (dst := amM) rfl
  rw [role_as] at h
  exact h
theorem recvMax_wait {c : Dev nD} (t : Fin 8) (ht : t ≠ 0) {q : DmaSem sig} (hq : q = arS t) {s : Shape} {sp : Space} {src : Memref sig .tc sp s .f32}
    {o : Fin 2 → ℕ} {hd} {h₁ : src.view.WordExact} {h₂ : (atM.slice (rowR o hd) (fun _ => rfl)).view.WordExact} {α : Type} {Q : α → sProp 𝕄} {k : PUnit → Prog (TpuEff nD τ sig (Elt F) Λ₀ .tc) α} :
    iprop(env m ρ K ∗ cred (tallyAt (arC c t) () Na) ∗ ow c 22 ∗ pos0 c (.ra t))
      ⊢ iprop(((ow c 22 ∗ closed m ρ c (.ra t) ∗ tPts c t (tableB m ρ c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src (atM.slice (rowR o hd) (fun _ => rfl)) h₁ h₂) k) Q) := by
  have h := wait_step m ρ K (c := c) (.ra t) (by rw [role_ar]; exact duties_ra ht) 22 (mayWait_none c _) (N := Na) (by rw [role_ar]; rfl)
    (q := q) (by rw [hq]) (src := src) (h₁ := h₁) (h₂ := h₂) (Q := Q) (kk := k) (dst := atM.slice (rowR o hd) (fun _ => rfl)) rfl
  rw [role_ar] at h
  exact h
theorem recv_wait {c : Dev nD} (t : Fin 8) (ht : t ≠ 0) {q : DmaSem sig} (hq : q = drS t) {s : Shape} {sp : Space} {src : Memref sig .tc sp s .bf16}
    {o : Fin 3 → ℕ} {hd} {h₁ : src.view.WordExact} {h₂ : (slotV rM o hd).view.WordExact} {α : Type} {Q : α → sProp 𝕄} {k : PUnit → Prog (TpuEff nD τ sig (Elt F) Λ₀ .tc) α} :
    iprop(env m ρ K ∗ cred (tallyAt (drC c t) () Nd) ∗ ow c 22 ∗ pos0 c (.dr t))
      ⊢ iprop(((ow c 22 ∗ closed m ρ c (.dr t) ∗ rPts c t (recvB m ρ c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src (slotV rM o hd) h₁ h₂) k) Q) := by
  have h := wait_step m ρ K (c := c) (.dr t) (by rw [role_dr]; exact duties_dr ht) 22 (mayWait_none c _) (N := Nd) (by rw [role_dr]; rfl)
    (q := q) (by rw [hq]) (src := src) (h₁ := h₁) (h₂ := h₂) (Q := Q) (kk := k) (dst := slotV rM o hd) rfl
  rw [role_dr] at h
  exact h

end Cert.Fused

end
-- ==== Proof.Parts1.lean ====
/-
The first parts of the body: the barrier signals, the product, the tiles stored and sent.
-/
module

public import proofs.«01_k».proof.Proof.Moves

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The inputs in place -/

def xPts (c : Dev nD) : sProp 𝕄 := ((c : Thread nD τ).loc cc0_stg0_0) ↦{fullShare} (xb m ρ c)
def wPts (c : Dev nD) : sProp 𝕄 := ((c : Thread nD τ).loc cc0_stg1_0) ↦{fullShare} (wb m ρ c)

theorem x_load {c : Dev nD} {hl} {α : Type} {Q : α → sProp 𝕄} {k : Vec F S512x4096 .f32 → Prog (TpuEff nD τ sig (Elt F) Λ₀ .tc) α} :
    xPts m ρ c ⊢ iprop((xPts m ρ c -∗ wp frame (wpE (defs₀ (F := F)) 𝒱₀ (c : Thread nD τ) none) Set.univ (k (xb m ρ c)) Q)
      -∗ wp frame (wpE (defs₀ (F := F)) 𝒱₀ (c : Thread nD τ) none) Set.univ (.op (.load xM (Rect.unit (s := S512x4096) ![0, 0] S512x4096.size inb_S512x4096_S512x4096_0_0).toLoadRect hl) k) Q) := by
  unfold xPts
  iintro H Hk
  iapply (wp_load 𝒱₀ (c : Thread nD τ) none Set.univ (m := xM) (Finset.subset_univ _)) $$ H
  rw [x_loaded]
  iexact Hk
theorem slot_load_some {c : Dev nD} {j : Fin 8} {o : Fin 3 → ℕ} (ho : o = ![j.val, 0, 0]) {h} {hl} {α : Type} {Q : α → sProp 𝕄}
    {k : Vec F S1x512x256 .bf16 → Prog (TpuEff nD τ sig (Elt F) Λ₀ .tc) α} :
    sAny (F := F) c j ⊢ iprop((∀ v, sAny c j -∗ wp frame (wpE (defs₀ (F := F)) 𝒱₀ (c : Thread nD τ) none) Set.univ (k v) Q) -∗ wp frame (wpE (defs₀ (F := F)) 𝒱₀ (c : Thread nD τ) none) Set.univ (.op (.load sM (slotR o h).toLoadRect hl) k) Q) := by
  unfold sAny sPts
  iintro ⟨%f, H⟩ Hk
  iapply (wp_load 𝒱₀ (c : Thread nD τ) none Set.univ (m := sM) ((setOn_whole cc0_scratch0 _).trans (slotR_set j ho h).subset)) $$ H
  iintro H
  iapply Hk
  iexists f; iexact H
theorem w_load {c : Dev nD} {R : LoadRect S4096x2048} {v : Vec F R.shape .f32} (hv : wM.view.readAt (Elt F) R (wb m ρ c) = v) {hl} {α : Type} {Q : α → sProp 𝕄}
    {k : Vec F R.shape .f32 → Prog (TpuEff nD τ sig (Elt F) Λ₀ .tc) α} :
    wPts m ρ c ⊢ iprop((wPts m ρ c -∗ wp frame (wpE (defs₀ (F := F)) 𝒱₀ (c : Thread nD τ) none) Set.univ (k v) Q) -∗ wp frame (wpE (defs₀ (F := F)) 𝒱₀ (c : Thread nD τ) none) Set.univ (.op (.load wM R hl) k) Q) := by
  subst hv
  unfold wPts
  iintro H Hk
  iapply (wp_load 𝒱₀ (c : Thread nD τ) none Set.univ (m := wM) (Finset.subset_univ _)) $$ H
  iexact Hk

/-! ## Words -/

/-- The device's number as the kernel computes it. -/
def me (c : Dev nD) : BitVec 32 := Scalar.remsi (Scalar.divsi (Dev.word c) 1#32) 8#32
def theBar : Sems sig S_ := SemArray.scalar (sig.barrier 0 rfl)

theorem here_0 (c : Dev nD) : Scalar.cmpi .ne (Scalar.extui (Scalar.cmpi .eq (me c) 0#32) : BitVec 32) 0#32 = 1#1 ↔ c = 0 := by revert c; decide +kernel
theorem away_0 (c : Dev nD) : Scalar.cmpi .ne (Scalar.extui (Scalar.cmpi .ne (me c) 0#32) : BitVec 32) 0#32 = 1#1 ↔ c ≠ 0 := by revert c; decide +kernel
theorem to_0 (h : k0_dev8 < nD) : (⟨k0_dev8, h⟩ : Dev nD) = 0 := Fin.ext k0_dev8_eq

theorem here_1 (c : Dev nD) : Scalar.cmpi .ne (Scalar.extui (Scalar.cmpi .eq (me c) 1#32) : BitVec 32) 0#32 = 1#1 ↔ c = 1 := by revert c; decide +kernel
theorem away_1 (c : Dev nD) : Scalar.cmpi .ne (Scalar.extui (Scalar.cmpi .ne (me c) 1#32) : BitVec 32) 0#32 = 1#1 ↔ c ≠ 1 := by revert c; decide +kernel
theorem to_1 (h : k0_dev9 < nD) : (⟨k0_dev9, h⟩ : Dev nD) = 1 := Fin.ext k0_dev9_eq

theorem here_2 (c : Dev nD) : Scalar.cmpi .ne (Scalar.extui (Scalar.cmpi .eq (me c) 2#32) : BitVec 32) 0#32 = 1#1 ↔ c = 2 := by revert c; decide +kernel
theorem away_2 (c : Dev nD) : Scalar.cmpi .ne (Scalar.extui (Scalar.cmpi .ne (me c) 2#32) : BitVec 32) 0#32 = 1#1 ↔ c ≠ 2 := by revert c; decide +kernel
theorem to_2 (h : k0_dev10 < nD) : (⟨k0_dev10, h⟩ : Dev nD) = 2 := Fin.ext k0_dev10_eq

theorem here_3 (c : Dev nD) : Scalar.cmpi .ne (Scalar.extui (Scalar.cmpi .eq (me c) 3#32) : BitVec 32) 0#32 = 1#1 ↔ c = 3 := by revert c; decide +kernel
theorem away_3 (c : Dev nD) : Scalar.cmpi .ne (Scalar.extui (Scalar.cmpi .ne (me c) 3#32) : BitVec 32) 0#32 = 1#1 ↔ c ≠ 3 := by revert c; decide +kernel
theorem to_3 (h : k0_dev11 < nD) : (⟨k0_dev11, h⟩ : Dev nD) = 3 := Fin.ext k0_dev11_eq

theorem here_4 (c : Dev nD) : Scalar.cmpi .ne (Scalar.extui (Scalar.cmpi .eq (me c) 4#32) : BitVec 32) 0#32 = 1#1 ↔ c = 4 := by revert c; decide +kernel
theorem away_4 (c : Dev nD) : Scalar.cmpi .ne (Scalar.extui (Scalar.cmpi .ne (me c) 4#32) : BitVec 32) 0#32 = 1#1 ↔ c ≠ 4 := by revert c; decide +kernel
theorem to_4 (h : k0_dev12 < nD) : (⟨k0_dev12, h⟩ : Dev nD) = 4 := Fin.ext k0_dev12_eq

theorem here_5 (c : Dev nD) : Scalar.cmpi .ne (Scalar.extui (Scalar.cmpi .eq (me c) 5#32) : BitVec 32) 0#32 = 1#1 ↔ c = 5 := by revert c; decide +kernel
theorem away_5 (c : Dev nD) : Scalar.cmpi .ne (Scalar.extui (Scalar.cmpi .ne (me c) 5#32) : BitVec 32) 0#32 = 1#1 ↔ c ≠ 5 := by revert c; decide +kernel
theorem to_5 (h : k0_dev13 < nD) : (⟨k0_dev13, h⟩ : Dev nD) = 5 := Fin.ext k0_dev13_eq

theorem here_6 (c : Dev nD) : Scalar.cmpi .ne (Scalar.extui (Scalar.cmpi .eq (me c) 6#32) : BitVec 32) 0#32 = 1#1 ↔ c = 6 := by revert c; decide +kernel
theorem away_6 (c : Dev nD) : Scalar.cmpi .ne (Scalar.extui (Scalar.cmpi .ne (me c) 6#32) : BitVec 32) 0#32 = 1#1 ↔ c ≠ 6 := by revert c; decide +kernel
theorem to_6 (h : k0_dev14 < nD) : (⟨k0_dev14, h⟩ : Dev nD) = 6 := Fin.ext k0_dev14_eq

theorem here_7 (c : Dev nD) : Scalar.cmpi .ne (Scalar.extui (Scalar.cmpi .eq (me c) 7#32) : BitVec 32) 0#32 = 1#1 ↔ c = 7 := by revert c; decide +kernel
theorem away_7 (c : Dev nD) : Scalar.cmpi .ne (Scalar.extui (Scalar.cmpi .ne (me c) 7#32) : BitVec 32) 0#32 = 1#1 ↔ c ≠ 7 := by revert c; decide +kernel
theorem to_7 (h : k0_dev15 < nD) : (⟨k0_dev15, h⟩ : Dev nD) = 7 := Fin.ext k0_dev15_eq

theorem bigSep8 (Φ : Fin 8 → sProp 𝕄) : (bigSep Finset.univ Φ : sProp 𝕄) = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep7 (Φ : Fin 8 → sProp 𝕄) : (bigSep (Finset.univ.erase 0) Φ : sProp 𝕄) = iprop(Φ 1 ∗ Φ 2 ∗ Φ 3 ∗ Φ 4 ∗ Φ 5 ∗ Φ 6 ∗ Φ 7) := by
  rw [bigSep_eq_bigSepL_of_eq [1, 2, 3, 4, 5, 6, 7] (by decide) (by decide)]
  rfl

/-- The tokens for the copies to every device. -/
def dToks (c : Dev nD) : sProp 𝕄 := bigSep Finset.univ fun j : Fin 8 => iprop(tok (F := F) c (.ds j) 0 ∗ tok j (.dr (j - c)) 0)
/-- The rows handed over at the barrier. -/
def rows (c : Dev nD) : sProp 𝕄 := bigSep (Finset.univ.erase 0) fun t : Fin 8 => tAny (F := F) (c + t) t

theorem add_sub_left8 (c t : Fin 8) : c + t - c = t := by revert c t; decide
def shift8 (c : Fin 8) : Fin 8 ≃ Fin 8 where
  toFun t := c + t
  invFun j := j - c
  left_inv := by revert c; decide
  right_inv := by revert c; decide
theorem bigSep_first (Φ : Fin 8 → sProp 𝕄) : (bigSep Finset.univ Φ : sProp 𝕄) = iprop(Φ 0 ∗ bigSep (Finset.univ.erase 0) Φ) := by
  rw [← Finset.insert_erase (Finset.mem_univ (0 : Fin 8)), bigSep_insert (Finset.notMem_erase _ _), Finset.erase_insert (Finset.notMem_erase _ _)]
  rfl
theorem add_zero8 (c : Fin 8) : c + 0 = c := by revert c; decide

theorem gifts_split (c : Dev nD) : iprop(gifts (F := F) c ∗ rAny c 0 ∗ dToks c) ⊢ iprop((bigSep Finset.univ fun j : Fin 8 => dPre c j) ∗ rows c) := by
  have e : (bigSep Finset.univ fun j : Fin 8 => rAny (F := F) j (j - c)) = bigSep Finset.univ fun t : Fin 8 => rAny (F := F) (c + t) t := by
    rw [bigSep_univ_equiv (shift8 c) (fun j : Fin 8 => rAny (F := F) j (j - c))]
    exact bigSep_congr fun t _ => by
      show rAny (c + t) (c + t - c) = _
      rw [add_sub_left8]
  unfold gifts dToks dPre rows gift
  rw [bigSep_sep' (Finset.univ.erase 0), bigSep_sep' Finset.univ (fun j : Fin 8 => rAny (F := F) j (j - c)), e]
  iintro ⟨⟨Hr, Ht⟩, H0, Hk⟩
  isplitr [Ht]
  · isplitr [Hk]
    · rw [bigSep_first]
      isplitl [H0]
      · rw [add_zero8]; iexact H0
      iexact Hr
    iexact Hk
  iexact Ht

variable (K : Dev nD × Slot → ℕ)

/-! ## The parts -/

theorem part1_wp (c : Dev nD)  :
    iprop(env m ρ K ∗ ow c 0 ∗ tok (c + 1) .bar (-1) ∗ gift (F := F) c (-1) ∗ tok (c + 2) .bar (-2) ∗ gift (F := F) c (-2))
      ⊢ wp frame (wpE (defs₀ (F := F)) 𝒱₀ (c : Thread nD τ) none) Set.univ (k0_part1 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 ) (fun r => iprop(⌜c = r.1 ∧ me c = r.2.1 ∧ theBar = r.2.2.1⌝ ∗ ow c 2)) := by
  rw [k0_part1_eq_skeleton]
  unfold k0_part1_skel
  simp only [semSignalWord, semWaitWord, Prog.lift, Prog.bind_op, Prog.bind_ret, Prog.pure_eq_ret, wp_deviceId]
  iintro ⟨#HE, Ho, Ht1, Hg1, Ht2, Hg2⟩
  iapply (signal_step m ρ K (c := c) 1 (by decide) (dev1 c) rfl) $$ [Ho Ht1 Hg1]
  · isplitr; · iexact HE
    isplitl [Ho]; · iexact Ho
    isplitl [Ht1]; · iexact Ht1
    iexact Hg1
  iintro Ho
  iapply (signal_step m ρ K (c := c) 2 (by decide) (dev2 c) rfl) $$ [Ho Ht2 Hg2]
  · isplitr; · iexact HE
    isplitl [Ho]; · iexact Ho
    isplitl [Ht2]; · iexact Ht2
    iexact Hg2
  iintro Ho
  rw [wp_ret]
  imodintro
  isplitr; · ipureintro; (first | exact ⟨rfl, rfl⟩ | exact ⟨rfl, rfl, rfl⟩ | rfl)
  iexact Ho

theorem part2_wp (c : Dev nD) (w₁ w₂ : BitVec 32) (w₃ : BitVec 1) :
    iprop(env m ρ K ∗ ow c 2 ∗ tok (c + 3) .bar (-3) ∗ gift (F := F) c (-3) ∗ tok (c + 4) .bar (-4) ∗ gift (F := F) c (-4))
      ⊢ wp frame (wpE (defs₀ (F := F)) 𝒱₀ (c : Thread nD τ) none) Set.univ (k0_part2 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) theBar w₁ w₂ w₃) (fun _ => iprop(ow c 4)) := by
  rw [k0_part2_eq_skeleton]
  unfold k0_part2_skel
  simp only [semSignalWord, semWaitWord, Prog.lift, Prog.bind_op, Prog.bind_ret, Prog.pure_eq_ret, wp_deviceId]
  iintro ⟨#HE, Ho, Ht3, Hg3, Ht4, Hg4⟩
  iapply (signal_step m ρ K (c := c) 3 (by decide) (dev3 c) rfl) $$ [Ho Ht3 Hg3]
  · isplitr; · iexact HE
    isplitl [Ho]; · iexact Ho
    isplitl [Ht3]; · iexact Ht3
    iexact Hg3
  iintro Ho
  iapply (signal_step m ρ K (c := c) 4 (by decide) (dev4 c) rfl) $$ [Ho Ht4 Hg4]
  · isplitr; · iexact HE
    isplitl [Ho]; · iexact Ho
    isplitl [Ht4]; · iexact Ht4
    iexact Hg4
  iintro Ho
  rw [wp_ret]
  imodintro
  iexact Ho

theorem part3_wp (c : Dev nD) (w₁ : BitVec 32) (w₂ : BitVec 1) (w₃ : BitVec 32) :
    iprop(env m ρ K ∗ ow c 4 ∗ tok (c + 5) .bar (-5) ∗ gift (F := F) c (-5) ∗ tok (c + 6) .bar (-6) ∗ gift (F := F) c (-6) ∗ tok (c + 7) .bar (-7) ∗ gift (F := F) c (-7) ∗ xPts m ρ c)
      ⊢ wp frame (wpE (defs₀ (F := F)) 𝒱₀ (c : Thread nD τ) none) Set.univ (k0_part3 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) theBar w₁ w₂ w₃) (fun r => iprop(⌜r = k0_pay1 (xb m ρ c)⌝ ∗ ow c 7 ∗ xPts m ρ c)) := by
  rw [k0_part3_eq_skeleton]
  unfold k0_part3_skel
  simp only [semSignalWord, semWaitWord, Prog.lift, Prog.bind_op, Prog.bind_ret, Prog.pure_eq_ret, wp_deviceId]
  iintro ⟨#HE, Ho, Ht5, Hg5, Ht6, Hg6, Ht7, Hg7, Hx⟩
  iapply (signal_step m ρ K (c := c) 5 (by decide) (dev5 c) rfl) $$ [Ho Ht5 Hg5]
  · isplitr; · iexact HE
    isplitl [Ho]; · iexact Ho
    isplitl [Ht5]; · iexact Ht5
    iexact Hg5
  iintro Ho
  iapply (signal_step m ρ K (c := c) 6 (by decide) (dev6 c) rfl) $$ [Ho Ht6 Hg6]
  · isplitr; · iexact HE
    isplitl [Ho]; · iexact Ho
    isplitl [Ht6]; · iexact Ht6
    iexact Hg6
  iintro Ho
  iapply (signal_step m ρ K (c := c) 7 (by decide) (dev7 c) rfl) $$ [Ho Ht7 Hg7]
  · isplitr; · iexact HE
    isplitl [Ho]; · iexact Ho
    isplitl [Ht7]; · iexact Ht7
    iexact Hg7
  iintro Ho
  iapply (x_load m ρ) $$ Hx
  iintro Hx
  rw [wp_ret]
  imodintro
  isplitr; · ipureintro; (first | exact ⟨rfl, rfl⟩ | exact ⟨rfl, rfl, rfl⟩ | rfl)
  isplitl [Ho]; · iexact Ho
  iexact Hx

theorem part4_wp (c : Dev nD)  :
    iprop(env m ρ K ∗ ow c 7 ∗ wPts m ρ c ∗ sAny (F := F) c 0 ∗ cPre (F := F) c 0 ∗ cred (tallyAt (barC c) () 7) ∗ pos0 c .bar ∗ rAny (F := F) c 0 ∗ dToks c)
      ⊢ wp frame (wpE (defs₀ (F := F)) 𝒱₀ (c : Thread nD τ) none) Set.univ (k0_part4 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) theBar (k0_pay1 (xb m ρ c))) (fun r => iprop(⌜r.1 = mx0 m ρ c ∧ r.2.1 = k0_pay4 (k0_pay1 (xb m ρ c)) (wc0 m ρ c)⌝ ∗ ow c 8 ∗ wPts m ρ c ∗ dPost m ρ c 0 ∗ cPost m ρ c 0 ∗ closed m ρ c .bar ∗ rows c ∗ dPre (F := F) c 1 ∗ dPre (F := F) c 2 ∗ dPre (F := F) c 3 ∗ dPre (F := F) c 4 ∗ dPre (F := F) c 5 ∗ dPre (F := F) c 6 ∗ dPre (F := F) c 7)) := by
  rw [k0_part4_eq_skeleton]
  unfold k0_part4_skel
  simp only [semSignalWord, semWaitWord, Prog.lift, Prog.bind_op, Prog.bind_ret, Prog.pure_eq_ret, wp_deviceId]
  iintro ⟨#HE, Ho, Hw, Hs0, Hc0, Hcr, Hp, Hr, Hk⟩
  iapply (w_load m ρ (v := wc0 m ρ c) rfl) $$ Hw
  iintro Hw
  iapply (slot_load_any (j := 0) rfl) $$ Hs0
  iintro Hs0
  iapply (slot_store m ρ (j := 0) rfl (by rfl)) $$ Hs0
  iintro Hs0
  iapply (barrier_step m ρ K (c := c) rfl) $$ [Hcr Ho Hp]
  · isplitr; · iexact HE
    isplitl [Hcr]; · iexact Hcr
    isplitl [Ho]; · iexact Ho
    iexact Hp
  iintro ⟨Ho, Hp, Hg⟩
  ihave H := (gifts_split (F := F) c) $$ [Hg Hr Hk]
  · isplitl [Hg]; · iexact Hg
    isplitl [Hr] <;> iassumption
  icases H with ⟨H, Hrows⟩
  ihave H := (Entails.of_eq (bigSep8 _)) $$ H
  icases H with ⟨Hd0, Hd1, Hd2, Hd3, Hd4, Hd5, Hd6, Hd7⟩
  iapply (send_if m ρ K (j := 0) (cond_0 c) (fun _ => to_0 _) rfl (slotOff_0 c) (sem5 0 rfl _) (fun h => sem6 _ (semOff_0 c h) _)) $$ [Ho Hs0 Hd0]
  · isplitr; · iexact HE
    isplitl [Ho]; · iexact Ho
    isplitl [Hs0]; · iexact Hs0
    iexact Hd0
  iintro ⟨Ho, Hd0⟩
  iapply (copy_if m ρ K (j := 0) (here_0 c) rfl rfl sem4) $$ [Ho Hd0 Hc0]
  · isplitr; · iexact HE
    isplitl [Ho]; · iexact Ho
    isplitl [Hd0]; · iexact Hd0
    iexact Hc0
  iintro ⟨Ho, Hd0, Hc0⟩
  rw [wp_ret]
  imodintro
  isplitr; · ipureintro; (first | exact ⟨rfl, rfl⟩ | exact ⟨rfl, rfl, rfl⟩ | rfl)
  isplitl [Ho]; · iexact Ho
  isplitl [Hw]; · iexact Hw
  isplitl [Hd0]; · iexact Hd0
  isplitl [Hc0]; · iexact Hc0
  isplitl [Hp]; · iexact Hp
  isplitl [Hrows]; · iexact Hrows
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  iexact Hd7

theorem part5_wp (c : Dev nD) (w₁ : BitVec 32) (w₂ : BitVec 32) (w₃ : BitVec 1) :
    iprop(env m ρ K ∗ ow c 8 ∗ xPts m ρ c ∗ wPts m ρ c ∗ sAny (F := F) c 1 ∗ dPre (F := F) c 1 ∗ cPre (F := F) c 1)
      ⊢ wp frame (wpE (defs₀ (F := F)) 𝒱₀ (c : Thread nD τ) none) Set.univ (k0_part5 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (mx0 m ρ c) (k0_pay4 (k0_pay1 (xb m ρ c)) (wc0 m ρ c)) w₁ w₂ w₃) (fun r => iprop(⌜r.1 = mx1 m ρ c ∧ r.2.1 = (k0_pay9 (xb m ρ c) (wc1 m ρ c))⌝ ∗ ow c 9 ∗ xPts m ρ c ∗ wPts m ρ c ∗ dPost m ρ c 1 ∗ cPost m ρ c 1)) := by
  rw [k0_part5_eq_skeleton]
  unfold k0_part5_skel
  simp only [semSignalWord, semWaitWord, Prog.lift, Prog.bind_op, Prog.bind_ret, Prog.pure_eq_ret, wp_deviceId]
  iintro ⟨#HE, Ho, Hx, Hw, Hs1, Hd1, Hc1⟩
  iapply (slot_load_any (j := 1) rfl) $$ Hs1
  iintro Hs1
  iapply (slot_store m ρ (j := 1) rfl (by rfl)) $$ Hs1
  iintro Hs1
  iapply (send_if m ρ K (j := 1) (cond_1 c) (fun _ => to_1 _) rfl (slotOff_1 c) (sem5 1 rfl _) (fun h => sem6 _ (semOff_1 c h) _)) $$ [Ho Hs1 Hd1]
  · isplitr; · iexact HE
    isplitl [Ho]; · iexact Ho
    isplitl [Hs1]; · iexact Hs1
    iexact Hd1
  iintro ⟨Ho, Hd1⟩
  iapply (copy_if m ρ K (j := 1) (here_1 c) rfl rfl sem4) $$ [Ho Hd1 Hc1]
  · isplitr; · iexact HE
    isplitl [Ho]; · iexact Ho
    isplitl [Hd1]; · iexact Hd1
    iexact Hc1
  iintro ⟨Ho, Hd1, Hc1⟩
  iapply (x_load m ρ) $$ Hx
  iintro Hx
  iapply (w_load m ρ (v := wc1 m ρ c) rfl) $$ Hw
  iintro Hw
  rw [wp_ret]
  imodintro
  isplitr; · ipureintro; (first | exact ⟨rfl, rfl⟩ | exact ⟨rfl, rfl, rfl⟩ | rfl)
  isplitl [Ho]; · iexact Ho
  isplitl [Hx]; · iexact Hx
  isplitl [Hw]; · iexact Hw
  isplitl [Hd1]; · iexact Hd1
  iexact Hc1

theorem part6_wp (c : Dev nD) (w₁ w₂ w₃ : BitVec 32) :
    iprop(env m ρ K ∗ ow c 9 ∗ sAny (F := F) c 2 ∗ dPre (F := F) c 2 ∗ cPre (F := F) c 2 ∗ sAny (F := F) c 3)
      ⊢ wp frame (wpE (defs₀ (F := F)) 𝒱₀ (c : Thread nD τ) none) Set.univ (k0_part6 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (k0_pay9 (xb m ρ c) (wc1 m ρ c)) w₁ w₂ w₃) (fun _ => iprop(ow c 10 ∗ dPost m ρ c 2 ∗ cPost m ρ c 2 ∗ sPts c 3 (sendB m ρ c))) := by
  rw [k0_part6_eq_skeleton]
  unfold k0_part6_skel
  simp only [semSignalWord, semWaitWord, Prog.lift, Prog.bind_op, Prog.bind_ret, Prog.pure_eq_ret, wp_deviceId]
  iintro ⟨#HE, Ho, Hs2, Hd2, Hc2, Hs3⟩
  iapply (slot_load_any (j := 2) rfl) $$ Hs2
  iintro Hs2
  iapply (slot_store m ρ (j := 2) rfl (by rfl)) $$ Hs2
  iintro Hs2
  iapply (send_if m ρ K (j := 2) (cond_2 c) (fun _ => to_2 _) rfl (slotOff_2 c) (sem5 2 rfl _) (fun h => sem6 _ (semOff_2 c h) _)) $$ [Ho Hs2 Hd2]
  · isplitr; · iexact HE
    isplitl [Ho]; · iexact Ho
    isplitl [Hs2]; · iexact Hs2
    iexact Hd2
  iintro ⟨Ho, Hd2⟩
  iapply (copy_if m ρ K (j := 2) (here_2 c) rfl rfl sem4) $$ [Ho Hd2 Hc2]
  · isplitr; · iexact HE
    isplitl [Ho]; · iexact Ho
    isplitl [Hd2]; · iexact Hd2
    iexact Hc2
  iintro ⟨Ho, Hd2, Hc2⟩
  iapply (slot_load_any (j := 3) rfl) $$ Hs3
  iintro Hs3
  iapply (slot_store m ρ (j := 3) rfl (by rfl)) $$ Hs3
  iintro Hs3
  rw [wp_ret]
  imodintro
  isplitl [Ho]; · iexact Ho
  isplitl [Hd2]; · iexact Hd2
  isplitl [Hc2]; · iexact Hc2
  iexact Hs3

theorem part7_wp (c : Dev nD)  :
    iprop(env m ρ K ∗ ow c 10 ∗ xPts m ρ c ∗ wPts m ρ c ∗ sPts c 3 (sendB m ρ c) ∗ dPre (F := F) c 3 ∗ cPre (F := F) c 3 ∗ sAny (F := F) c 4 ∗ dPre (F := F) c 4)
      ⊢ wp frame (wpE (defs₀ (F := F)) 𝒱₀ (c : Thread nD τ) none) Set.univ (k0_part7 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (mx1 m ρ c)) (fun r => iprop(⌜r.1 = mx2 m ρ c ∧ r.2.1 = (k0_pay14 (xb m ρ c) (wc2 m ρ c)) ∧ r.2.2 = (Scalar.extui (Scalar.cmpi .eq (me c) 4#32) : BitVec 32)⌝ ∗ ow c 12 ∗ xPts m ρ c ∗ wPts m ρ c ∗ dPost m ρ c 3 ∗ cPost m ρ c 3 ∗ dMid m ρ c 4)) := by
  rw [k0_part7_eq_skeleton]
  unfold k0_part7_skel
  simp only [semSignalWord, semWaitWord, Prog.lift, Prog.bind_op, Prog.bind_ret, Prog.pure_eq_ret, wp_deviceId]
  iintro ⟨#HE, Ho, Hx, Hw, Hs3, Hd3, Hc3, Hs4, Hd4⟩
  iapply (send_if m ρ K (j := 3) (cond_3 c) (fun _ => to_3 _) rfl (slotOff_3 c) (sem5 3 rfl _) (fun h => sem6 _ (semOff_3 c h) _)) $$ [Ho Hs3 Hd3]
  · isplitr; · iexact HE
    isplitl [Ho]; · iexact Ho
    isplitl [Hs3]; · iexact Hs3
    iexact Hd3
  iintro ⟨Ho, Hd3⟩
  iapply (copy_if m ρ K (j := 3) (here_3 c) rfl rfl sem4) $$ [Ho Hd3 Hc3]
  · isplitr; · iexact HE
    isplitl [Ho]; · iexact Ho
    isplitl [Hd3]; · iexact Hd3
    iexact Hc3
  iintro ⟨Ho, Hd3, Hc3⟩
  iapply (x_load m ρ) $$ Hx
  iintro Hx
  iapply (w_load m ρ (v := wc2 m ρ c) rfl) $$ Hw
  iintro Hw
  iapply (slot_load_any (j := 4) rfl) $$ Hs4
  iintro Hs4
  iapply (slot_store m ρ (j := 4) rfl (by rfl)) $$ Hs4
  iintro Hs4
  iapply (send_if m ρ K (j := 4) (cond_4 c) (fun _ => to_4 _) rfl (slotOff_4 c) (sem5 4 rfl _) (fun h => sem6 _ (semOff_4 c h) _)) $$ [Ho Hs4 Hd4]
  · isplitr; · iexact HE
    isplitl [Ho]; · iexact Ho
    isplitl [Hs4]; · iexact Hs4
    iexact Hd4
  iintro ⟨Ho, Hd4⟩
  rw [wp_ret]
  imodintro
  isplitr; · ipureintro; (first | exact ⟨rfl, rfl⟩ | exact ⟨rfl, rfl, rfl⟩ | rfl)
  isplitl [Ho]; · iexact Ho
  isplitl [Hx]; · iexact Hx
  isplitl [Hw]; · iexact Hw
  isplitl [Hd3]; · iexact Hd3
  isplitl [Hc3]; · iexact Hc3
  iexact Hd4

theorem part8_wp (c : Dev nD)  :
    iprop(env m ρ K ∗ ow c 12 ∗ xPts m ρ c ∗ wPts m ρ c ∗ dMid m ρ c 4 ∗ cPre (F := F) c 4 ∗ sAny (F := F) c 5 ∗ dPre (F := F) c 5 ∗ cPre (F := F) c 5)
      ⊢ wp frame (wpE (defs₀ (F := F)) 𝒱₀ (c : Thread nD τ) none) Set.univ (k0_part8 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (mx2 m ρ c) (k0_pay14 (xb m ρ c) (wc2 m ρ c)) (Scalar.extui (Scalar.cmpi .eq (me c) 4#32) : BitVec 32)) (fun r => iprop(⌜r.1 = mx3 m ρ c ∧ r.2.1 = (k0_pay19 (xb m ρ c) (wc3 m ρ c))⌝ ∗ ow c 13 ∗ xPts m ρ c ∗ wPts m ρ c ∗ dPost m ρ c 4 ∗ cPost m ρ c 4 ∗ dPost m ρ c 5 ∗ cPost m ρ c 5)) := by
  rw [k0_part8_eq_skeleton]
  unfold k0_part8_skel
  simp only [semSignalWord, semWaitWord, Prog.lift, Prog.bind_op, Prog.bind_ret, Prog.pure_eq_ret, wp_deviceId]
  iintro ⟨#HE, Ho, Hx, Hw, Hd4, Hc4, Hs5, Hd5, Hc5⟩
  iapply (copy_if m ρ K (j := 4) (here_4 c) rfl rfl sem4) $$ [Ho Hd4 Hc4]
  · isplitr; · iexact HE
    isplitl [Ho]; · iexact Ho
    isplitl [Hd4]; · iexact Hd4
    iexact Hc4
  iintro ⟨Ho, Hd4, Hc4⟩
  iapply (slot_load_any (j := 5) rfl) $$ Hs5
  iintro Hs5
  iapply (slot_store m ρ (j := 5) rfl (by rfl)) $$ Hs5
  iintro Hs5
  iapply (send_if m ρ K (j := 5) (cond_5 c) (fun _ => to_5 _) rfl (slotOff_5 c) (sem5 5 rfl _) (fun h => sem6 _ (semOff_5 c h) _)) $$ [Ho Hs5 Hd5]
  · isplitr; · iexact HE
    isplitl [Ho]; · iexact Ho
    isplitl [Hs5]; · iexact Hs5
    iexact Hd5
  iintro ⟨Ho, Hd5⟩
  iapply (copy_if m ρ K (j := 5) (here_5 c) rfl rfl sem4) $$ [Ho Hd5 Hc5]
  · isplitr; · iexact HE
    isplitl [Ho]; · iexact Ho
    isplitl [Hd5]; · iexact Hd5
    iexact Hc5
  iintro ⟨Ho, Hd5, Hc5⟩
  iapply (x_load m ρ) $$ Hx
  iintro Hx
  iapply (w_load m ρ (v := wc3 m ρ c) rfl) $$ Hw
  iintro Hw
  rw [wp_ret]
  imodintro
  isplitr; · ipureintro; (first | exact ⟨rfl, rfl⟩ | exact ⟨rfl, rfl, rfl⟩ | rfl)
  isplitl [Ho]; · iexact Ho
  isplitl [Hx]; · iexact Hx
  isplitl [Hw]; · iexact Hw
  isplitl [Hd4]; · iexact Hd4
  isplitl [Hc4]; · iexact Hc4
  isplitl [Hd5]; · iexact Hd5
  iexact Hc5

theorem part9_wp (c : Dev nD) (w₁ : BitVec 32) :
    iprop(env m ρ K ∗ ow c 13 ∗ sAny (F := F) c 6 ∗ dPre (F := F) c 6 ∗ cPre (F := F) c 6 ∗ sAny (F := F) c 7)
      ⊢ wp frame (wpE (defs₀ (F := F)) 𝒱₀ (c : Thread nD τ) none) Set.univ (k0_part9 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (k0_pay19 (xb m ρ c) (wc3 m ρ c)) w₁) (fun r => iprop(⌜r.1 = k0_pay21 (k0_pay19 (xb m ρ c) (wc3 m ρ c))⌝ ∗ ow c 14 ∗ dPost m ρ c 6 ∗ cPost m ρ c 6 ∗ sAny (F := F) c 7)) := by
  rw [k0_part9_eq_skeleton]
  unfold k0_part9_skel
  simp only [semSignalWord, semWaitWord, Prog.lift, Prog.bind_op, Prog.bind_ret, Prog.pure_eq_ret, wp_deviceId]
  iintro ⟨#HE, Ho, Hs6, Hd6, Hc6, Hs7⟩
  iapply (slot_load_any (j := 6) rfl) $$ Hs6
  iintro Hs6
  iapply (slot_store m ρ (j := 6) rfl (by rfl)) $$ Hs6
  iintro Hs6
  iapply (send_if m ρ K (j := 6) (cond_6 c) (fun _ => to_6 _) rfl (slotOff_6 c) (sem5 6 rfl _) (fun h => sem6 _ (semOff_6 c h) _)) $$ [Ho Hs6 Hd6]
  · isplitr; · iexact HE
    isplitl [Ho]; · iexact Ho
    isplitl [Hs6]; · iexact Hs6
    iexact Hd6
  iintro ⟨Ho, Hd6⟩
  iapply (copy_if m ρ K (j := 6) (here_6 c) rfl rfl sem4) $$ [Ho Hd6 Hc6]
  · isplitr; · iexact HE
    isplitl [Ho]; · iexact Ho
    isplitl [Hd6]; · iexact Hd6
    iexact Hc6
  iintro ⟨Ho, Hd6, Hc6⟩
  iapply (slot_load_some (j := 7) rfl) $$ Hs7
  iintro %v Hs7
  rw [wp_ret]
  imodintro
  isplitr; · ipureintro; (first | exact ⟨rfl, rfl⟩ | exact ⟨rfl, rfl, rfl⟩ | rfl)
  isplitl [Ho]; · iexact Ho
  isplitl [Hd6]; · iexact Hd6
  isplitl [Hc6]; · iexact Hc6
  iexact Hs7

theorem part10_wp (c : Dev nD) (w₁ : Vec F S1x512x256 .bf16) :
    iprop(env m ρ K ∗ ow c 14 ∗ sAny (F := F) c 7 ∗ dPre (F := F) c 7 ∗ cPre (F := F) c 7 ∗ mAny (F := F) c ∗ tAny (F := F) c 0)
      ⊢ wp frame (wpE (defs₀ (F := F)) 𝒱₀ (c : Thread nD τ) none) Set.univ (k0_part10 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (mx3 m ρ c) (k0_pay21 (k0_pay19 (xb m ρ c) (wc3 m ρ c))) w₁) (fun _ => iprop(ow c 15 ∗ dPost m ρ c 7 ∗ cPost m ρ c 7 ∗ mPts c fullShare (amaxB m ρ c) ∗ tPts c 0 (tableB m ρ c))) := by
  rw [k0_part10_eq_skeleton]
  unfold k0_part10_skel
  simp only [semSignalWord, semWaitWord, Prog.lift, Prog.bind_op, Prog.bind_ret, Prog.pure_eq_ret, wp_deviceId]
  iintro ⟨#HE, Ho, Hs7, Hd7, Hc7, Hm, Hr⟩
  iapply (slot_store m ρ (j := 7) rfl (by rfl)) $$ Hs7
  iintro Hs7
  iapply (send_if m ρ K (j := 7) (cond_7 c) (fun _ => to_7 _) rfl (slotOff_7 c) (sem5 7 rfl _) (fun h => sem6 _ (semOff_7 c h) _)) $$ [Ho Hs7 Hd7]
  · isplitr; · iexact HE
    isplitl [Ho]; · iexact Ho
    isplitl [Hs7]; · iexact Hs7
    iexact Hd7
  iintro ⟨Ho, Hd7⟩
  iapply (copy_if m ρ K (j := 7) (here_7 c) rfl rfl sem4) $$ [Ho Hd7 Hc7]
  · isplitr; · iexact HE
    isplitl [Ho]; · iexact Ho
    isplitl [Hd7]; · iexact Hd7
    iexact Hc7
  iintro ⟨Ho, Hd7, Hc7⟩
  iapply am_load_any $$ Hm
  iintro Hm
  iapply am_store $$ Hm
  iintro Hm
  iapply am_load $$ Hm
  iintro Hm
  iapply (row_load_any (s := 0) rfl) $$ Hr
  iintro Hr
  iapply (row_store m ρ rfl (by rfl)) $$ Hr
  iintro Hr
  rw [wp_ret]
  imodintro
  isplitl [Ho]; · iexact Ho
  isplitl [Hd7]; · iexact Hd7
  isplitl [Hc7]; · iexact Hc7
  isplitl [Hm]; · iexact Hm
  iexact Hr

end Cert.Fused

end
-- ==== Proof.Parts2.lean ====
/-
The later parts of the body: the maxima exchanged, the tiles of the result, the closing waits.
-/
module

public import proofs.«01_k».proof.Proof.Parts1

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Pieces of a buffer -/

theorem split_by {ℓ : Loc nD τ sig} (g : Idx ℓ → Fin 8) (q : PosShare TreeShare) (f : Buf (Elt F) ℓ) :
    ((ℓ ↦{q} f) : sProp 𝕄) = bigSep Finset.univ fun t : Fin 8 => ℓ ↦[Finset.univ.filter fun i => g i = t]{q} f := by
  rw [← pointsTo_biUnion Finset.univ (fun t : Fin 8 => Finset.univ.filter fun i => g i = t)
    (fun t _ t' _ h => Finset.disjoint_left.mpr fun i hi hi' => h ((Finset.mem_filter.mp hi).2.symm.trans (Finset.mem_filter.mp hi').2))]
  congr 1
  ext i
  simp

def tW (c : Dev nD) : sProp 𝕄 := ((c : Thread nD τ).loc cc0_scratch3) ↦{fullShare} (tableB m ρ c)
theorem table_whole (c : Dev nD) : (tW m ρ c : sProp 𝕄) = bigSep Finset.univ fun t : Fin 8 => tPts c t (tableB m ρ c) :=
  split_by (ℓ := (c : Thread nD τ).loc cc0_scratch3) rowNo fullShare (tableB m ρ c)

theorem send_whole (c : Dev nD) (f : Buf (Elt F) ((c : Thread nD τ).loc cc0_scratch0)) :
    (((c : Thread nD τ).loc cc0_scratch0) ↦{fullShare} f : sProp 𝕄) = bigSep Finset.univ fun t : Fin 8 => sPts c t f :=
  split_by (ℓ := (c : Thread nD τ).loc cc0_scratch0) slotNo fullShare f
theorem recv_whole (c : Dev nD) (f : Buf (Elt F) ((c : Thread nD τ).loc cc0_scratch1)) :
    (((c : Thread nD τ).loc cc0_scratch1) ↦{fullShare} f : sProp 𝕄) = bigSep Finset.univ fun t : Fin 8 => rPts c t f :=
  split_by (ℓ := (c : Thread nD τ).loc cc0_scratch1) slotNo fullShare f
theorem rows_whole (c : Dev nD) (f : Buf (Elt F) ((c : Thread nD τ).loc cc0_scratch3)) :
    (((c : Thread nD τ).loc cc0_scratch3) ↦{fullShare} f : sProp 𝕄) = bigSep Finset.univ fun t : Fin 8 => tPts c t f :=
  split_by (ℓ := (c : Thread nD τ).loc cc0_scratch3) rowNo fullShare f
theorem result_whole (c : Dev nD) (f : Buf (Elt F) ((c : Thread nD τ).loc cc0_stg2_0)) :
    (((c : Thread nD τ).loc cc0_stg2_0) ↦{fullShare} f : sProp 𝕄) = bigSep Finset.univ fun t : Fin 8 => oPts c t f :=
  split_by (ℓ := (c : Thread nD τ).loc cc0_stg2_0) tileNo fullShare f
theorem max_leaves (c : Dev nD) (f : Buf (Elt F) ((c : Thread nD τ).loc cc0_scratch2)) :
    (mPts c fullShare f : sProp 𝕄) = bigSep Finset.univ fun t : Fin 8 => mPts c (lf t) f :=
  pointsTo_leaves Finset.univ f 3 fullShare
/-- The tiles of the result in the order the device writes them. -/
def back8 (c : Fin 8) : Fin 8 ≃ Fin 8 where
  toFun t := c - t
  invFun j := c - j
  left_inv := by revert c; decide
  right_inv := by revert c; decide
theorem result_turned (c : Dev nD) (f : Buf (Elt F) ((c : Thread nD τ).loc cc0_stg2_0)) :
    (((c : Thread nD τ).loc cc0_stg2_0) ↦{fullShare} f : sProp 𝕄) = bigSep Finset.univ fun t : Fin 8 => oPts c (c - t) f :=
  (result_whole c f).trans (bigSep_univ_equiv (back8 c) fun t : Fin 8 => oPts (F := F) c t f)

theorem table_load {c : Dev nD} {hl} {α : Type} {Q : α → sProp 𝕄} {k : Vec F S8x128 .f32 → Prog (TpuEff nD τ sig (Elt F) Λ₀ .tc) α} :
    tW m ρ c ⊢ iprop((tW m ρ c -∗ wp frame (wpE (defs₀ (F := F)) 𝒱₀ (c : Thread nD τ) none) Set.univ (k (tableB m ρ c)) Q)
      -∗ wp frame (wpE (defs₀ (F := F)) 𝒱₀ (c : Thread nD τ) none) Set.univ (.op (.load atM (Rect.unit (s := S8x128) ![0, 0] S8x128.size inb_S8x128_S8x128_0_0).toLoadRect hl) k) Q) := by
  unfold tW
  iintro H Hk
  iapply (wp_load 𝒱₀ (c : Thread nD τ) none Set.univ (m := atM) (Finset.subset_univ _)) $$ H
  rw [table_loaded]
  iexact Hk

variable (K : Dev nD × Slot → ℕ)

/-! ## The parts -/

theorem part11_wp (c : Dev nD)  :
    iprop(env m ρ K ∗ ow c 15 ∗ aPre m ρ c 1 ∗ aPre m ρ c 2)
      ⊢ wp frame (wpE (defs₀ (F := F)) 𝒱₀ (c : Thread nD τ) none) Set.univ (k0_part11 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c)) (fun _ => iprop(ow c 17 ∗ cred (tallyAt (asC c 1) () Na) ∗ cred (tallyAt (asC c 2) () Na))) := by
  rw [k0_part11_eq_skeleton]
  unfold k0_part11_skel
  simp only [semSignalWord, semWaitWord, Prog.lift, Prog.bind_op, Prog.bind_ret, Prog.pure_eq_ret, wp_deviceId]
  iintro ⟨#HE, Ho, Ha1, Ha2⟩
  iapply (max_send m ρ K (c := c) 1 (by decide) (dev16 c) rfl (sem7 1 rfl _) (sem8 1 rfl _)) $$ [Ho Ha1]
  · isplitr; · iexact HE
    isplitl [Ho] <;> iassumption
  iintro ⟨Ho, Ha1⟩
  iapply (max_send m ρ K (c := c) 2 (by decide) (dev17 c) rfl (sem7 2 rfl _) (sem8 2 rfl _)) $$ [Ho Ha2]
  · isplitr; · iexact HE
    isplitl [Ho] <;> iassumption
  iintro ⟨Ho, Ha2⟩
  rw [wp_ret]
  imodintro
  isplitl [Ho]; · iexact Ho
  isplitl [Ha1]; · iexact Ha1
  iexact Ha2

theorem part12_wp (c : Dev nD)  :
    iprop(env m ρ K ∗ ow c 17 ∗ aPre m ρ c 3 ∗ aPre m ρ c 4)
      ⊢ wp frame (wpE (defs₀ (F := F)) 𝒱₀ (c : Thread nD τ) none) Set.univ (k0_part12 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c)) (fun _ => iprop(ow c 19 ∗ cred (tallyAt (asC c 3) () Na) ∗ cred (tallyAt (asC c 4) () Na))) := by
  rw [k0_part12_eq_skeleton]
  unfold k0_part12_skel
  simp only [semSignalWord, semWaitWord, Prog.lift, Prog.bind_op, Prog.bind_ret, Prog.pure_eq_ret, wp_deviceId]
  iintro ⟨#HE, Ho, Ha3, Ha4⟩
  iapply (max_send m ρ K (c := c) 3 (by decide) (dev18 c) rfl (sem7 3 rfl _) (sem8 3 rfl _)) $$ [Ho Ha3]
  · isplitr; · iexact HE
    isplitl [Ho] <;> iassumption
  iintro ⟨Ho, Ha3⟩
  iapply (max_send m ρ K (c := c) 4 (by decide) (dev19 c) rfl (sem7 4 rfl _) (sem8 4 rfl _)) $$ [Ho Ha4]
  · isplitr; · iexact HE
    isplitl [Ho] <;> iassumption
  iintro ⟨Ho, Ha4⟩
  rw [wp_ret]
  imodintro
  isplitl [Ho]; · iexact Ho
  isplitl [Ha3]; · iexact Ha3
  iexact Ha4

theorem part13_wp (c : Dev nD) (w₁ w₂ : BitVec 32) :
    iprop(env m ρ K ∗ ow c 19 ∗ aPre m ρ c 5 ∗ aPre m ρ c 6)
      ⊢ wp frame (wpE (defs₀ (F := F)) 𝒱₀ (c : Thread nD τ) none) Set.univ (k0_part13 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) w₁ w₂) (fun _ => iprop(ow c 21 ∗ cred (tallyAt (asC c 5) () Na) ∗ cred (tallyAt (asC c 6) () Na))) := by
  rw [k0_part13_eq_skeleton]
  unfold k0_part13_skel
  simp only [semSignalWord, semWaitWord, Prog.lift, Prog.bind_op, Prog.bind_ret, Prog.pure_eq_ret, wp_deviceId]
  iintro ⟨#HE, Ho, Ha5, Ha6⟩
  iapply (max_send m ρ K (c := c) 5 (by decide) (dev20 c) rfl (sem7 5 rfl _) (sem8 5 rfl _)) $$ [Ho Ha5]
  · isplitr; · iexact HE
    isplitl [Ho] <;> iassumption
  iintro ⟨Ho, Ha5⟩
  iapply (max_send m ρ K (c := c) 6 (by decide) (dev21 c) rfl (sem7 6 rfl _) (sem8 6 rfl _)) $$ [Ho Ha6]
  · isplitr; · iexact HE
    isplitl [Ho] <;> iassumption
  iintro ⟨Ho, Ha6⟩
  rw [wp_ret]
  imodintro
  isplitl [Ho]; · iexact Ho
  isplitl [Ha5]; · iexact Ha5
  iexact Ha6

theorem part14_wp (c : Dev nD) (w₁ w₂ w₃ w₄ w₅ : BitVec 32) (w₆ : BitVec 1) (w₇ : BitVec 32) :
    iprop(env m ρ K ∗ ow c 21 ∗ aPre m ρ c 7 ∗ cred (tallyAt (arC c 1) () Na) ∗ pos0 c (.ra 1) ∗ cred (tallyAt (arC c 2) () Na) ∗ pos0 c (.ra 2) ∗ cred (tallyAt (arC c 3) () Na) ∗ pos0 c (.ra 3))
      ⊢ wp frame (wpE (defs₀ (F := F)) 𝒱₀ (c : Thread nD τ) none) Set.univ (k0_part14 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c w₁ w₂ w₃ w₄ w₅ w₆ w₇) (fun _ => iprop(ow c 22 ∗ cred (tallyAt (asC c 7) () Na) ∗ closed m ρ c (.ra 1) ∗ tPts c 1 (tableB m ρ c) ∗ closed m ρ c (.ra 2) ∗ tPts c 2 (tableB m ρ c) ∗ closed m ρ c (.ra 3) ∗ tPts c 3 (tableB m ρ c))) := by
  rw [k0_part14_eq_skeleton]
  unfold k0_part14_skel
  simp only [semSignalWord, semWaitWord, Prog.lift, Prog.bind_op, Prog.bind_ret, Prog.pure_eq_ret, wp_deviceId]
  iintro ⟨#HE, Ho, Ha7, Hc1, Hp1, Hc2, Hp2, Hc3, Hp3⟩
  iapply (max_send m ρ K (c := c) 7 (by decide) (dev22 c) rfl (sem7 7 rfl _) (sem8 7 rfl _)) $$ [Ho Ha7]
  · isplitr; · iexact HE
    isplitl [Ho] <;> iassumption
  iintro ⟨Ho, Ha7⟩
  iapply (recvMax_wait m ρ K (c := c) 1 (by decide) (sem8 1 rfl _)) $$ [Ho Hc1 Hp1]
  · isplitr; · iexact HE
    isplitl [Hc1]; · iexact Hc1
    isplitl [Ho] <;> iassumption
  iintro ⟨Ho, Hp1, Hr1⟩
  iapply (recvMax_wait m ρ K (c := c) 2 (by decide) (sem8 2 rfl _)) $$ [Ho Hc2 Hp2]
  · isplitr; · iexact HE
    isplitl [Hc2]; · iexact Hc2
    isplitl [Ho] <;> iassumption
  iintro ⟨Ho, Hp2, Hr2⟩
  iapply (recvMax_wait m ρ K (c := c) 3 (by decide) (sem8 3 rfl _)) $$ [Ho Hc3 Hp3]
  · isplitr; · iexact HE
    isplitl [Hc3]; · iexact Hc3
    isplitl [Ho] <;> iassumption
  iintro ⟨Ho, Hp3, Hr3⟩
  rw [wp_ret]
  imodintro
  isplitl [Ho]; · iexact Ho
  isplitl [Ha7]; · iexact Ha7
  isplitl [Hp1]; · iexact Hp1
  isplitl [Hr1]; · iexact Hr1
  isplitl [Hp2]; · iexact Hp2
  isplitl [Hr2]; · iexact Hr2
  isplitl [Hp3]; · iexact Hp3
  iexact Hr3

theorem part15_wp (c : Dev nD) (w₀ w₁ w₂ w₃ : BitVec 32) :
    iprop(env m ρ K ∗ ow c 22 ∗ tPts c 0 (tableB m ρ c) ∗ tPts c 1 (tableB m ρ c) ∗ tPts c 2 (tableB m ρ c) ∗ tPts c 3 (tableB m ρ c) ∗ cred (tallyAt (arC c 4) () Na) ∗ pos0 c (.ra 4) ∗ cred (tallyAt (arC c 5) () Na) ∗ pos0 c (.ra 5) ∗ cred (tallyAt (arC c 6) () Na) ∗ pos0 c (.ra 6) ∗ cred (tallyAt (arC c 7) () Na) ∗ pos0 c (.ra 7))
      ⊢ wp frame (wpE (defs₀ (F := F)) 𝒱₀ (c : Thread nD τ) none) Set.univ (k0_part15 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 w₀ w₁ w₂ w₃) (fun r => iprop(⌜r.1 = scl m ρ c ∧ r.2.1 = fac m ρ c⌝ ∗ ow c 22 ∗ tW m ρ c ∗ closed m ρ c (.ra 4) ∗ closed m ρ c (.ra 5) ∗ closed m ρ c (.ra 6) ∗ closed m ρ c (.ra 7))) := by
  rw [k0_part15_eq_skeleton]
  unfold k0_part15_skel
  simp only [semSignalWord, semWaitWord, Prog.lift, Prog.bind_op, Prog.bind_ret, Prog.pure_eq_ret, wp_deviceId]
  iintro ⟨#HE, Ho, Hr0, Hr1, Hr2, Hr3, Hc4, Hp4, Hc5, Hp5, Hc6, Hp6, Hc7, Hp7⟩
  iapply (recvMax_wait m ρ K (c := c) 4 (by decide) (sem8 4 rfl _)) $$ [Ho Hc4 Hp4]
  · isplitr; · iexact HE
    isplitl [Hc4]; · iexact Hc4
    isplitl [Ho] <;> iassumption
  iintro ⟨Ho, Hp4, Hr4⟩
  iapply (recvMax_wait m ρ K (c := c) 5 (by decide) (sem8 5 rfl _)) $$ [Ho Hc5 Hp5]
  · isplitr; · iexact HE
    isplitl [Hc5]; · iexact Hc5
    isplitl [Ho] <;> iassumption
  iintro ⟨Ho, Hp5, Hr5⟩
  iapply (recvMax_wait m ρ K (c := c) 6 (by decide) (sem8 6 rfl _)) $$ [Ho Hc6 Hp6]
  · isplitr; · iexact HE
    isplitl [Hc6]; · iexact Hc6
    isplitl [Ho] <;> iassumption
  iintro ⟨Ho, Hp6, Hr6⟩
  iapply (recvMax_wait m ρ K (c := c) 7 (by decide) (sem8 7 rfl _)) $$ [Ho Hc7 Hp7]
  · isplitr; · iexact HE
    isplitl [Hc7]; · iexact Hc7
    isplitl [Ho] <;> iassumption
  iintro ⟨Ho, Hp7, Hr7⟩
  ihave Hr := (Entails.of_eq ((bigSep8 _).symm.trans (table_whole m ρ c).symm)) $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  iapply (table_load m ρ) $$ Hr
  iintro Hr
  rw [wp_ret]
  imodintro
  isplitr; · ipureintro; (first | exact ⟨rfl, rfl⟩ | exact ⟨rfl, rfl, rfl⟩ | rfl)
  isplitl [Ho]; · iexact Ho
  isplitl [Hr]; · iexact Hr
  isplitl [Hp4]; · iexact Hp4
  isplitl [Hp5]; · iexact Hp5
  isplitl [Hp6]; · iexact Hp6
  iexact Hp7

theorem part16_wp (c : Dev nD) (w₁ w₂ : BitVec 32) :
    iprop(env m ρ K ∗ ow c 22 ∗ rPts c 0 (recvB m ρ c) ∗ oAny (F := F) c (c - 0) ∗ cred (tallyAt (drC c 1) () Nd) ∗ pos0 c (.dr 1))
      ⊢ wp frame (wpE (defs₀ (F := F)) 𝒱₀ (c : Thread nD τ) none) Set.univ (k0_part16 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (scl m ρ c) (fac m ρ c) w₁ w₂) (fun _ => iprop(ow c 22 ∗ rPts c 0 (recvB m ρ c) ∗ oPts c (c - 0) (outB m ρ c) ∗ rPts c 1 (recvB m ρ c) ∗ closed m ρ c (.dr 1))) := by
  rw [k0_part16_eq_skeleton]
  unfold k0_part16_skel
  simp only [semSignalWord, semWaitWord, Prog.lift, Prog.bind_op, Prog.bind_ret, Prog.pure_eq_ret, wp_deviceId]
  iintro ⟨#HE, Ho, Hr0, Hu0, Hc1, Hp1⟩
  iapply (recv_load m ρ (c := c) (t := 0) rfl) $$ Hr0
  iintro Hr0
  iapply (out_load_any (c := c) (r := c - 0) (tileOff_0 c)) $$ Hu0
  iintro Hu0
  iapply (out_store m ρ (c := c) 0 (tileOff_0 c) (by rfl)) $$ Hu0
  iintro Hu0
  iapply (recv_wait m ρ K (c := c) 1 (by decide) (sem6 1 rfl _)) $$ [Ho Hc1 Hp1]
  · isplitr; · iexact HE
    isplitl [Hc1]; · iexact Hc1
    isplitl [Ho] <;> iassumption
  iintro ⟨Ho, Hp1, Hr1⟩
  rw [wp_ret]
  imodintro
  isplitl [Ho]; · iexact Ho
  isplitl [Hr0]; · iexact Hr0
  isplitl [Hu0]; · iexact Hu0
  isplitl [Hr1]; · iexact Hr1
  iexact Hp1

theorem part17_wp (c : Dev nD) (w₁ w₂ w₃ : BitVec 32) :
    iprop(env m ρ K ∗ ow c 22 ∗ rPts c 1 (recvB m ρ c) ∗ oAny (F := F) c (c - 1) ∗ cred (tallyAt (drC c 2) () Nd) ∗ pos0 c (.dr 2))
      ⊢ wp frame (wpE (defs₀ (F := F)) 𝒱₀ (c : Thread nD τ) none) Set.univ (k0_part17 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (scl m ρ c) (fac m ρ c) w₁ w₂ w₃) (fun _ => iprop(ow c 22 ∗ rPts c 1 (recvB m ρ c) ∗ oPts c (c - 1) (outB m ρ c) ∗ rPts c 2 (recvB m ρ c) ∗ closed m ρ c (.dr 2))) := by
  rw [k0_part17_eq_skeleton]
  unfold k0_part17_skel
  simp only [semSignalWord, semWaitWord, Prog.lift, Prog.bind_op, Prog.bind_ret, Prog.pure_eq_ret, wp_deviceId]
  iintro ⟨#HE, Ho, Hr1, Hu1, Hc2, Hp2⟩
  iapply (recv_load m ρ (c := c) (t := 1) rfl) $$ Hr1
  iintro Hr1
  iapply (out_load_any (c := c) (r := c - 1) (tileOff_1 c)) $$ Hu1
  iintro Hu1
  iapply (out_store m ρ (c := c) 1 (tileOff_1 c) (by rfl)) $$ Hu1
  iintro Hu1
  iapply (recv_wait m ρ K (c := c) 2 (by decide) (sem6 2 rfl _)) $$ [Ho Hc2 Hp2]
  · isplitr; · iexact HE
    isplitl [Hc2]; · iexact Hc2
    isplitl [Ho] <;> iassumption
  iintro ⟨Ho, Hp2, Hr2⟩
  rw [wp_ret]
  imodintro
  isplitl [Ho]; · iexact Ho
  isplitl [Hr1]; · iexact Hr1
  isplitl [Hu1]; · iexact Hu1
  isplitl [Hr2]; · iexact Hr2
  iexact Hp2

theorem part18_wp (c : Dev nD) (w₁ w₂ : BitVec 32) :
    iprop(env m ρ K ∗ ow c 22 ∗ rPts c 2 (recvB m ρ c) ∗ oAny (F := F) c (c - 2) ∗ cred (tallyAt (drC c 3) () Nd) ∗ pos0 c (.dr 3))
      ⊢ wp frame (wpE (defs₀ (F := F)) 𝒱₀ (c : Thread nD τ) none) Set.univ (k0_part18 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (scl m ρ c) (fac m ρ c) w₁ w₂) (fun _ => iprop(ow c 22 ∗ rPts c 2 (recvB m ρ c) ∗ oPts c (c - 2) (outB m ρ c) ∗ rPts c 3 (recvB m ρ c) ∗ closed m ρ c (.dr 3))) := by
  rw [k0_part18_eq_skeleton]
  unfold k0_part18_skel
  simp only [semSignalWord, semWaitWord, Prog.lift, Prog.bind_op, Prog.bind_ret, Prog.pure_eq_ret, wp_deviceId]
  iintro ⟨#HE, Ho, Hr2, Hu2, Hc3, Hp3⟩
  iapply (recv_load m ρ (c := c) (t := 2) rfl) $$ Hr2
  iintro Hr2
  iapply (out_load_any (c := c) (r := c - 2) (tileOff_2 c)) $$ Hu2
  iintro Hu2
  iapply (out_store m ρ (c := c) 2 (tileOff_2 c) (by rfl)) $$ Hu2
  iintro Hu2
  iapply (recv_wait m ρ K (c := c) 3 (by decide) (sem6 3 rfl _)) $$ [Ho Hc3 Hp3]
  · isplitr; · iexact HE
    isplitl [Hc3]; · iexact Hc3
    isplitl [Ho] <;> iassumption
  iintro ⟨Ho, Hp3, Hr3⟩
  rw [wp_ret]
  imodintro
  isplitl [Ho]; · iexact Ho
  isplitl [Hr2]; · iexact Hr2
  isplitl [Hu2]; · iexact Hu2
  isplitl [Hr3]; · iexact Hr3
  iexact Hp3

theorem part19_wp (c : Dev nD)  :
    iprop(env m ρ K ∗ ow c 22 ∗ rPts c 3 (recvB m ρ c) ∗ oAny (F := F) c (c - 3))
      ⊢ wp frame (wpE (defs₀ (F := F)) 𝒱₀ (c : Thread nD τ) none) Set.univ (k0_part19 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (scl m ρ c) (fac m ρ c)) (fun _ => iprop(ow c 22 ∗ rPts c 3 (recvB m ρ c) ∗ oPts c (c - 3) (outB m ρ c))) := by
  rw [k0_part19_eq_skeleton]
  unfold k0_part19_skel
  simp only [semSignalWord, semWaitWord, Prog.lift, Prog.bind_op, Prog.bind_ret, Prog.pure_eq_ret, wp_deviceId]
  iintro ⟨#HE, Ho, Hr3, Hu3⟩
  iapply (recv_load m ρ (c := c) (t := 3) rfl) $$ Hr3
  iintro Hr3
  iapply (out_load_any (c := c) (r := c - 3) (tileOff_3 c)) $$ Hu3
  iintro Hu3
  iapply (out_store m ρ (c := c) 3 (tileOff_3 c) (by rfl)) $$ Hu3
  iintro Hu3
  rw [wp_ret]
  imodintro
  isplitl [Ho]; · iexact Ho
  isplitl [Hr3]; · iexact Hr3
  iexact Hu3

theorem part20_wp (c : Dev nD)  :
    iprop(env m ρ K ∗ ow c 22 ∗ cred (tallyAt (drC c 4) () Nd) ∗ pos0 c (.dr 4) ∗ oAny (F := F) c (c - 4))
      ⊢ wp frame (wpE (defs₀ (F := F)) 𝒱₀ (c : Thread nD τ) none) Set.univ (k0_part20 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (scl m ρ c) (fac m ρ c)) (fun _ => iprop(ow c 22 ∗ rPts c 4 (recvB m ρ c) ∗ oPts c (c - 4) (outB m ρ c) ∗ closed m ρ c (.dr 4))) := by
  rw [k0_part20_eq_skeleton]
  unfold k0_part20_skel
  simp only [semSignalWord, semWaitWord, Prog.lift, Prog.bind_op, Prog.bind_ret, Prog.pure_eq_ret, wp_deviceId]
  iintro ⟨#HE, Ho, Hc4, Hp4, Hu4⟩
  iapply (recv_wait m ρ K (c := c) 4 (by decide) (sem6 4 rfl _)) $$ [Ho Hc4 Hp4]
  · isplitr; · iexact HE
    isplitl [Hc4]; · iexact Hc4
    isplitl [Ho] <;> iassumption
  iintro ⟨Ho, Hp4, Hr4⟩
  iapply (recv_load m ρ (c := c) (t := 4) rfl) $$ Hr4
  iintro Hr4
  iapply (out_load_any (c := c) (r := c - 4) (tileOff_4 c)) $$ Hu4
  iintro Hu4
  iapply (out_store m ρ (c := c) 4 (tileOff_4 c) (by rfl)) $$ Hu4
  iintro Hu4
  rw [wp_ret]
  imodintro
  isplitl [Ho]; · iexact Ho
  isplitl [Hr4]; · iexact Hr4
  isplitl [Hu4]; · iexact Hu4
  iexact Hp4

theorem part21_wp (c : Dev nD)  :
    iprop(env m ρ K ∗ ow c 22 ∗ cred (tallyAt (drC c 5) () Nd) ∗ pos0 c (.dr 5) ∗ oAny (F := F) c (c - 5))
      ⊢ wp frame (wpE (defs₀ (F := F)) 𝒱₀ (c : Thread nD τ) none) Set.univ (k0_part21 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (scl m ρ c) (fac m ρ c)) (fun _ => iprop(ow c 22 ∗ rPts c 5 (recvB m ρ c) ∗ oPts c (c - 5) (outB m ρ c) ∗ closed m ρ c (.dr 5))) := by
  rw [k0_part21_eq_skeleton]
  unfold k0_part21_skel
  simp only [semSignalWord, semWaitWord, Prog.lift, Prog.bind_op, Prog.bind_ret, Prog.pure_eq_ret, wp_deviceId]
  iintro ⟨#HE, Ho, Hc5, Hp5, Hu5⟩
  iapply (recv_wait m ρ K (c := c) 5 (by decide) (sem6 5 rfl _)) $$ [Ho Hc5 Hp5]
  · isplitr; · iexact HE
    isplitl [Hc5]; · iexact Hc5
    isplitl [Ho] <;> iassumption
  iintro ⟨Ho, Hp5, Hr5⟩
  iapply (recv_load m ρ (c := c) (t := 5) rfl) $$ Hr5
  iintro Hr5
  iapply (out_load_any (c := c) (r := c - 5) (tileOff_5 c)) $$ Hu5
  iintro Hu5
  iapply (out_store m ρ (c := c) 5 (tileOff_5 c) (by rfl)) $$ Hu5
  iintro Hu5
  rw [wp_ret]
  imodintro
  isplitl [Ho]; · iexact Ho
  isplitl [Hr5]; · iexact Hr5
  isplitl [Hu5]; · iexact Hu5
  iexact Hp5

theorem part22_wp (c : Dev nD)  :
    iprop(env m ρ K ∗ ow c 22 ∗ cred (tallyAt (drC c 6) () Nd) ∗ pos0 c (.dr 6) ∗ oAny (F := F) c (c - 6))
      ⊢ wp frame (wpE (defs₀ (F := F)) 𝒱₀ (c : Thread nD τ) none) Set.univ (k0_part22 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (scl m ρ c) (fac m ρ c)) (fun _ => iprop(ow c 22 ∗ rPts c 6 (recvB m ρ c) ∗ oPts c (c - 6) (outB m ρ c) ∗ closed m ρ c (.dr 6))) := by
  rw [k0_part22_eq_skeleton]
  unfold k0_part22_skel
  simp only [semSignalWord, semWaitWord, Prog.lift, Prog.bind_op, Prog.bind_ret, Prog.pure_eq_ret, wp_deviceId]
  iintro ⟨#HE, Ho, Hc6, Hp6, Hu6⟩
  iapply (recv_wait m ρ K (c := c) 6 (by decide) (sem6 6 rfl _)) $$ [Ho Hc6 Hp6]
  · isplitr; · iexact HE
    isplitl [Hc6]; · iexact Hc6
    isplitl [Ho] <;> iassumption
  iintro ⟨Ho, Hp6, Hr6⟩
  iapply (recv_load m ρ (c := c) (t := 6) rfl) $$ Hr6
  iintro Hr6
  iapply (out_load_any (c := c) (r := c - 6) (tileOff_6 c)) $$ Hu6
  iintro Hu6
  iapply (out_store m ρ (c := c) 6 (tileOff_6 c) (by rfl)) $$ Hu6
  iintro Hu6
  rw [wp_ret]
  imodintro
  isplitl [Ho]; · iexact Ho
  isplitl [Hr6]; · iexact Hr6
  isplitl [Hu6]; · iexact Hu6
  iexact Hp6

theorem part23_wp (c : Dev nD) (w₁ w₂ : BitVec 32) :
    iprop(env m ρ K ∗ ow c 22 ∗ cred (tallyAt (drC c 7) () Nd) ∗ pos0 c (.dr 7) ∗ oAny (F := F) c (c - 7))
      ⊢ wp frame (wpE (defs₀ (F := F)) 𝒱₀ (c : Thread nD τ) none) Set.univ (k0_part23 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 c (me c) (scl m ρ c) (fac m ρ c) w₁ w₂) (fun r => iprop(⌜r = Scalar.cmpi .ne (Scalar.extui (Scalar.cmpi .ne (me c) 0#32) : BitVec 32) 0#32⌝ ∗ ow c 22 ∗ rPts c 7 (recvB m ρ c) ∗ oPts c (c - 7) (outB m ρ c) ∗ closed m ρ c (.dr 7))) := by
  rw [k0_part23_eq_skeleton]
  unfold k0_part23_skel
  simp only [semSignalWord, semWaitWord, Prog.lift, Prog.bind_op, Prog.bind_ret, Prog.pure_eq_ret, wp_deviceId]
  iintro ⟨#HE, Ho, Hc7, Hp7, Hu7⟩
  iapply (recv_wait m ρ K (c := c) 7 (by decide) (sem6 7 rfl _)) $$ [Ho Hc7 Hp7]
  · isplitr; · iexact HE
    isplitl [Hc7]; · iexact Hc7
    isplitl [Ho] <;> iassumption
  iintro ⟨Ho, Hp7, Hr7⟩
  iapply (recv_load m ρ (c := c) (t := 7) rfl) $$ Hr7
  iintro Hr7
  iapply (out_load_any (c := c) (r := c - 7) (tileOff_7 c)) $$ Hu7
  iintro Hu7
  iapply (out_store m ρ (c := c) 7 (tileOff_7 c) (by rfl)) $$ Hu7
  iintro Hu7
  rw [wp_ret]
  imodintro
  isplitr; · ipureintro; (first | exact ⟨rfl, rfl⟩ | exact ⟨rfl, rfl, rfl⟩ | rfl)
  isplitl [Ho]; · iexact Ho
  isplitl [Hr7]; · iexact Hr7
  isplitl [Hu7]; · iexact Hu7
  iexact Hp7

theorem part24_wp (c : Dev nD)  :
    iprop(env m ρ K ∗ ow c 22 ∗ dPost m ρ c 0 ∗ pos0 c (.ds 0) ∗ dPost m ρ c 1 ∗ pos0 c (.ds 1) ∗ dPost m ρ c 2 ∗ pos0 c (.ds 2) ∗ dPost m ρ c 3 ∗ pos0 c (.ds 3) ∗ dPost m ρ c 4 ∗ pos0 c (.ds 4) ∗ dPost m ρ c 5 ∗ pos0 c (.ds 5) ∗ dPost m ρ c 6 ∗ pos0 c (.ds 6) ∗ dPost m ρ c 7 ∗ pos0 c (.ds 7) ∗ cred (tallyAt (asC c 1) () Na) ∗ pos0 c (.sa 1))
      ⊢ wp frame (wpE (defs₀ (F := F)) 𝒱₀ (c : Thread nD τ) none) Set.univ (k0_part24 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8 (me c) (Scalar.cmpi .ne (Scalar.extui (Scalar.cmpi .ne (me c) 0#32) : BitVec 32) 0#32)) (fun _ => iprop(ow c 22 ∗ sPts c 0 (sendB m ρ c) ∗ closed m ρ c (.ds 0) ∗ sPts c 1 (sendB m ρ c) ∗ closed m ρ c (.ds 1) ∗ sPts c 2 (sendB m ρ c) ∗ closed m ρ c (.ds 2) ∗ sPts c 3 (sendB m ρ c) ∗ closed m ρ c (.ds 3) ∗ sPts c 4 (sendB m ρ c) ∗ closed m ρ c (.ds 4) ∗ sPts c 5 (sendB m ρ c) ∗ closed m ρ c (.ds 5) ∗ sPts c 6 (sendB m ρ c) ∗ closed m ρ c (.ds 6) ∗ sPts c 7 (sendB m ρ c) ∗ closed m ρ c (.ds 7) ∗ mPts c (lf 1) (amaxB m ρ c) ∗ closed m ρ c (.sa 1))) := by
  rw [k0_part24_eq_skeleton]
  unfold k0_part24_skel
  simp only [semSignalWord, semWaitWord, Prog.lift, Prog.bind_op, Prog.bind_ret, Prog.pure_eq_ret, wp_deviceId]
  iintro ⟨#HE, Ho, Hd0, Hp0, Hd1, Hp1, Hd2, Hp2, Hd3, Hp3, Hd4, Hp4, Hd5, Hp5, Hd6, Hp6, Hd7, Hp7, Ha1, Hq1⟩
  iapply (sent_if m ρ K (j := 0) (away_0 c) (fun _ => sem5 0 rfl _)) $$ [Ho Hd0 Hp0]
  · isplitr; · iexact HE
    isplitl [Ho]; · iexact Ho
    isplitl [Hd0]; · iexact Hd0
    iexact Hp0
  iintro ⟨Ho, Hd0, Hp0⟩
  iapply (sent_if m ρ K (j := 1) (away_1 c) (fun _ => sem5 1 rfl _)) $$ [Ho Hd1 Hp1]
  · isplitr; · iexact HE
    isplitl [Ho]; · iexact Ho
    isplitl [Hd1]; · iexact Hd1
    iexact Hp1
  iintro ⟨Ho, Hd1, Hp1⟩
  iapply (sent_if m ρ K (j := 2) (away_2 c) (fun _ => sem5 2 rfl _)) $$ [Ho Hd2 Hp2]
  · isplitr; · iexact HE
    isplitl [Ho]; · iexact Ho
    isplitl [Hd2]; · iexact Hd2
    iexact Hp2
  iintro ⟨Ho, Hd2, Hp2⟩
  iapply (sent_if m ρ K (j := 3) (away_3 c) (fun _ => sem5 3 rfl _)) $$ [Ho Hd3 Hp3]
  · isplitr; · iexact HE
    isplitl [Ho]; · iexact Ho
    isplitl [Hd3]; · iexact Hd3
    iexact Hp3
  iintro ⟨Ho, Hd3, Hp3⟩
  iapply (sent_if m ρ K (j := 4) (away_4 c) (fun _ => sem5 4 rfl _)) $$ [Ho Hd4 Hp4]
  · isplitr; · iexact HE
    isplitl [Ho]; · iexact Ho
    isplitl [Hd4]; · iexact Hd4
    iexact Hp4
  iintro ⟨Ho, Hd4, Hp4⟩
  iapply (sent_if m ρ K (j := 5) (away_5 c) (fun _ => sem5 5 rfl _)) $$ [Ho Hd5 Hp5]
  · isplitr; · iexact HE
    isplitl [Ho]; · iexact Ho
    isplitl [Hd5]; · iexact Hd5
    iexact Hp5
  iintro ⟨Ho, Hd5, Hp5⟩
  iapply (sent_if m ρ K (j := 6) (away_6 c) (fun _ => sem5 6 rfl _)) $$ [Ho Hd6 Hp6]
  · isplitr; · iexact HE
    isplitl [Ho]; · iexact Ho
    isplitl [Hd6]; · iexact Hd6
    iexact Hp6
  iintro ⟨Ho, Hd6, Hp6⟩
  iapply (sent_if m ρ K (j := 7) (away_7 c) (fun _ => sem5 7 rfl _)) $$ [Ho Hd7 Hp7]
  · isplitr; · iexact HE
    isplitl [Ho]; · iexact Ho
    isplitl [Hd7]; · iexact Hd7
    iexact Hp7
  iintro ⟨Ho, Hd7, Hp7⟩
  iapply (sentMax_wait m ρ K (c := c) 1 (by decide) (sem7 1 rfl _)) $$ [Ho Ha1 Hq1]
  · isplitr; · iexact HE
    isplitl [Ha1]; · iexact Ha1
    isplitl [Ho] <;> iassumption
  iintro ⟨Ho, Hq1, Ha1⟩
  rw [wp_ret]
  imodintro
  isplitl [Ho]; · iexact Ho
  isplitl [Hd0]; · iexact Hd0
  isplitl [Hp0]; · iexact Hp0
  isplitl [Hd1]; · iexact Hd1
  isplitl [Hp1]; · iexact Hp1
  isplitl [Hd2]; · iexact Hd2
  isplitl [Hp2]; · iexact Hp2
  isplitl [Hd3]; · iexact Hd3
  isplitl [Hp3]; · iexact Hp3
  isplitl [Hd4]; · iexact Hd4
  isplitl [Hp4]; · iexact Hp4
  isplitl [Hd5]; · iexact Hd5
  isplitl [Hp5]; · iexact Hp5
  isplitl [Hd6]; · iexact Hd6
  isplitl [Hp6]; · iexact Hp6
  isplitl [Hd7]; · iexact Hd7
  isplitl [Hp7]; · iexact Hp7
  isplitl [Ha1]; · iexact Ha1
  iexact Hq1

end Cert.Fused

end
-- ==== Proof.Body.lean ====
/-
The whole body of the kernel.
-/
module

public import proofs.«01_k».proof.Proof.Parts2

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cPost_all (c : Dev nD) : (bigSep Finset.univ fun j : Fin 8 => cPost m ρ c j) ⊢ iprop(rPts c 0 (recvB m ρ c) ∗ closed m ρ c .copy) := by
  refine (elim_at _ (c : Fin 8)).trans ?_
  unfold cPost
  rw [if_pos rfl]

def bodyPre (c : Dev nD) : sProp 𝕄 := iprop(ow c 0
  ∗ xPts m ρ c
  ∗ wPts m ρ c
  ∗ (bigSep (Finset.univ.erase 0) fun t : Fin 8 => iprop(tok (c + t) .bar (-t) ∗ gift (F := F) c (-t)))
  ∗ (bigSep Finset.univ fun t : Fin 8 => iprop(sAny (F := F) c t ∗ cPre c t))
  ∗ (cred (tallyAt (barC c) () 7) ∗ pos0 c .bar ∗ rAny (F := F) c 0 ∗ dToks c ∗ tAny (F := F) c 0 ∗ mAny c)
  ∗ (bigSep (Finset.univ.erase 0) fun t : Fin 8 => iprop(tok (F := F) c (.sa t) 0 ∗ tok (c + t) (.ra t) 0))
  ∗ (bigSep (Finset.univ.erase 0) fun t : Fin 8 => iprop(cred (tallyAt (arC c t) () Na) ∗ pos0 (F := F) c (.ra t)))
  ∗ (bigSep (Finset.univ.erase 0) fun t : Fin 8 => iprop(cred (tallyAt (drC c t) () Nd) ∗ pos0 (F := F) c (.dr t)))
  ∗ (bigSep Finset.univ fun t : Fin 8 => pos0 (F := F) c (.ds t))
  ∗ (bigSep (Finset.univ.erase 0) fun t : Fin 8 => pos0 (F := F) c (.sa t))
  ∗ (bigSep Finset.univ fun t : Fin 8 => oAny (F := F) c (c - t)))
def bodyMid (c : Dev nD) : sProp 𝕄 := iprop(ow c 22
  ∗ xPts m ρ c
  ∗ wPts m ρ c
  ∗ closed m ρ c .bar
  ∗ closed m ρ c .copy
  ∗ tW m ρ c
  ∗ (bigSep Finset.univ fun t : Fin 8 => iprop(sPts c t (sendB m ρ c) ∗ closed m ρ c (.ds t)))
  ∗ rPts c 0 (recvB m ρ c)
  ∗ (bigSep (Finset.univ.erase 0) fun t : Fin 8 => iprop(rPts c t (recvB m ρ c) ∗ closed m ρ c (.dr t)))
  ∗ (bigSep (Finset.univ.erase 0) fun t : Fin 8 => closed m ρ c (.ra t))
  ∗ (bigSep Finset.univ fun t : Fin 8 => oPts c (c - t) (outB m ρ c))
  ∗ mPts c (lf 0) (amaxB m ρ c)
  ∗ (mPts c (lf 1) (amaxB m ρ c) ∗ closed m ρ c (.sa 1))
  ∗ (mPts c (lf 2) (amaxB m ρ c) ∗ closed m ρ c (.sa 2))
  ∗ (mPts c (lf 3) (amaxB m ρ c) ∗ closed m ρ c (.sa 3))
  ∗ (mPts c (lf 4) (amaxB m ρ c) ∗ closed m ρ c (.sa 4))
  ∗ (mPts c (lf 5) (amaxB m ρ c) ∗ closed m ρ c (.sa 5))
  ∗ (cred (tallyAt (asC c 6) () Na) ∗ pos0 (F := F) c (.sa 6))
  ∗ (cred (tallyAt (asC c 7) () Na) ∗ pos0 (F := F) c (.sa 7)))
def bodyPost (c : Dev nD) : sProp 𝕄 := iprop(ow c 22
  ∗ xPts m ρ c
  ∗ wPts m ρ c
  ∗ closed m ρ c .bar
  ∗ closed m ρ c .copy
  ∗ tW m ρ c
  ∗ (bigSep Finset.univ fun t : Fin 8 => iprop(sPts c t (sendB m ρ c) ∗ closed m ρ c (.ds t)))
  ∗ rPts c 0 (recvB m ρ c)
  ∗ (bigSep (Finset.univ.erase 0) fun t : Fin 8 => iprop(rPts c t (recvB m ρ c) ∗ closed m ρ c (.dr t)))
  ∗ (bigSep (Finset.univ.erase 0) fun t : Fin 8 => closed m ρ c (.ra t))
  ∗ (bigSep Finset.univ fun t : Fin 8 => oPts c (c - t) (outB m ρ c))
  ∗ mPts c (lf 0) (amaxB m ρ c)
  ∗ (bigSep (Finset.univ.erase 0) fun t : Fin 8 => iprop(mPts c (lf t) (amaxB m ρ c) ∗ closed m ρ c (.sa t))))

variable (K : Dev nD × Slot → ℕ)

set_option maxHeartbeats 4000000 in
theorem part25_wp (c : Dev nD) : iprop(env m ρ K ∗ bodyPre m ρ c) ⊢ wp frame (wpE (defs₀ (F := F)) 𝒱₀ (c : Thread nD τ) none) Set.univ (k0_part25 (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8) (fun _ => bodyMid m ρ c) := by
  rw [k0_part25_eq_skeleton]
  unfold k0_part25_skel bodyPre
  simp only [Prog.lift, Prog.bind_op, Prog.bind_ret, Prog.pure_eq_ret]
  iintro ⟨#HE, Ho, Hx, Hw, HA, HB, HC, HD, HE4, HF, HG, HH, HI⟩
  ihave HA := (Entails.of_eq (bigSep7 _)) $$ HA
  icases HA with ⟨⟨Ht1, Hg1⟩, ⟨Ht2, Hg2⟩, ⟨Ht3, Hg3⟩, ⟨Ht4, Hg4⟩, ⟨Ht5, Hg5⟩, ⟨Ht6, Hg6⟩, ⟨Ht7, Hg7⟩⟩
  iapply (wp_seq (part1_wp m ρ K c)) $$ [Ho Ht1 Hg1 Ht2 Hg2]
  · isplitr; · iexact HE
    isplitl [Ho]; · iexact Ho
    isplitl [Ht1]; · iexact Ht1
    isplitl [Hg1]; · iexact Hg1
    isplitl [Ht2]; · iexact Ht2
    iexact Hg2
  iintro %r ⟨%h, Ho⟩
  obtain ⟨d0, v2, v3, w1, w2, w3⟩ := r
  try dsimp only at h
  obtain ⟨rfl, rfl, rfl⟩ := h
  try dsimp only
  iapply (wp_seq (part2_wp m ρ K c _ _ _)) $$ [Ho Ht3 Hg3 Ht4 Hg4]
  · isplitr; · iexact HE
    isplitl [Ho]; · iexact Ho
    isplitl [Ht3]; · iexact Ht3
    isplitl [Hg3]; · iexact Hg3
    isplitl [Ht4]; · iexact Ht4
    iexact Hg4
  iintro %r Ho
  obtain ⟨w1, w2, w3⟩ := r
  try dsimp only
  iapply (wp_seq (part3_wp m ρ K c _ _ _)) $$ [Ho Ht5 Hg5 Ht6 Hg6 Ht7 Hg7 Hx]
  · isplitr; · iexact HE
    isplitl [Ho]; · iexact Ho
    isplitl [Ht5]; · iexact Ht5
    isplitl [Hg5]; · iexact Hg5
    isplitl [Ht6]; · iexact Ht6
    isplitl [Hg6]; · iexact Hg6
    isplitl [Ht7]; · iexact Ht7
    isplitl [Hg7]; · iexact Hg7
    iexact Hx
  iintro %r ⟨%h, Ho, Hx⟩
  try dsimp only at h
  obtain rfl := h
  try dsimp only
  ihave HB := (Entails.of_eq (bigSep8 _)) $$ HB
  icases HB with ⟨⟨Hs0, Hc0⟩, ⟨Hs1, Hc1⟩, ⟨Hs2, Hc2⟩, ⟨Hs3, Hc3⟩, ⟨Hs4, Hc4⟩, ⟨Hs5, Hc5⟩, ⟨Hs6, Hc6⟩, ⟨Hs7, Hc7⟩⟩
  icases HC with ⟨Hcr, Hp, Hr, Hk, Hta, Hm⟩
  iapply (wp_seq (part4_wp m ρ K c)) $$ [Ho Hw Hs0 Hc0 Hcr Hp Hr Hk]
  · isplitr; · iexact HE
    isplitl [Ho]; · iexact Ho
    isplitl [Hw]; · iexact Hw
    isplitl [Hs0]; · iexact Hs0
    isplitl [Hc0]; · iexact Hc0
    isplitl [Hcr]; · iexact Hcr
    isplitl [Hp]; · iexact Hp
    isplitl [Hr]; · iexact Hr
    iexact Hk
  iintro %r ⟨%h, Ho, Hw, Hd0, Hc0, Hbar, Hrows, Hd1, Hd2, Hd3, Hd4, Hd5, Hd6, Hd7⟩
  obtain ⟨v1, v2, w1, w2, w3⟩ := r
  try dsimp only at h
  obtain ⟨rfl, rfl⟩ := h
  try dsimp only
  iapply (wp_seq (part5_wp m ρ K c _ _ _)) $$ [Ho Hx Hw Hs1 Hd1 Hc1]
  · isplitr; · iexact HE
    isplitl [Ho]; · iexact Ho
    isplitl [Hx]; · iexact Hx
    isplitl [Hw]; · iexact Hw
    isplitl [Hs1]; · iexact Hs1
    isplitl [Hd1]; · iexact Hd1
    iexact Hc1
  iintro %r ⟨%h, Ho, Hx, Hw, Hd1, Hc1⟩
  obtain ⟨v1, v2, w1, w2, w3⟩ := r
  try dsimp only at h
  obtain ⟨rfl, rfl⟩ := h
  try dsimp only
  iapply (wp_seq (part6_wp m ρ K c _ _ _)) $$ [Ho Hs2 Hd2 Hc2 Hs3]
  · isplitr; · iexact HE
    isplitl [Ho]; · iexact Ho
    isplitl [Hs2]; · iexact Hs2
    isplitl [Hd2]; · iexact Hd2
    isplitl [Hc2]; · iexact Hc2
    iexact Hs3
  iintro %r ⟨Ho, Hd2, Hc2, Hs3⟩
  try dsimp only
  iapply (wp_seq (part7_wp m ρ K c)) $$ [Ho Hx Hw Hs3 Hd3 Hc3 Hs4 Hd4]
  · isplitr; · iexact HE
    isplitl [Ho]; · iexact Ho
    isplitl [Hx]; · iexact Hx
    isplitl [Hw]; · iexact Hw
    isplitl [Hs3]; · iexact Hs3
    isplitl [Hd3]; · iexact Hd3
    isplitl [Hc3]; · iexact Hc3
    isplitl [Hs4]; · iexact Hs4
    iexact Hd4
  iintro %r ⟨%h, Ho, Hx, Hw, Hd3, Hc3, Hd4⟩
  obtain ⟨v1, v2, w1⟩ := r
  try dsimp only at h
  obtain ⟨rfl, rfl, rfl⟩ := h
  try dsimp only
  iapply (wp_seq (part8_wp m ρ K c)) $$ [Ho Hx Hw Hd4 Hc4 Hs5 Hd5 Hc5]
  · isplitr; · iexact HE
    isplitl [Ho]; · iexact Ho
    isplitl [Hx]; · iexact Hx
    isplitl [Hw]; · iexact Hw
    isplitl [Hd4]; · iexact Hd4
    isplitl [Hc4]; · iexact Hc4
    isplitl [Hs5]; · iexact Hs5
    isplitl [Hd5]; · iexact Hd5
    iexact Hc5
  iintro %r ⟨%h, Ho, Hx, Hw, Hd4, Hc4, Hd5, Hc5⟩
  obtain ⟨v1, v2, w1⟩ := r
  try dsimp only at h
  obtain ⟨rfl, rfl⟩ := h
  try dsimp only
  iapply (wp_seq (part9_wp m ρ K c _)) $$ [Ho Hs6 Hd6 Hc6 Hs7]
  · isplitr; · iexact HE
    isplitl [Ho]; · iexact Ho
    isplitl [Hs6]; · iexact Hs6
    isplitl [Hd6]; · iexact Hd6
    isplitl [Hc6]; · iexact Hc6
    iexact Hs7
  iintro %r ⟨%h, Ho, Hd6, Hc6, Hs7⟩
  obtain ⟨v1, w1⟩ := r
  try dsimp only at h
  obtain rfl := h
  try dsimp only
  iapply (wp_seq (part10_wp m ρ K c _)) $$ [Ho Hs7 Hd7 Hc7 Hm Hta]
  · isplitr; · iexact HE
    isplitl [Ho]; · iexact Ho
    isplitl [Hs7]; · iexact Hs7
    isplitl [Hd7]; · iexact Hd7
    isplitl [Hc7]; · iexact Hc7
    isplitl [Hm]; · iexact Hm
    iexact Hta
  iintro %r ⟨Ho, Hd7, Hc7, Hm, Hr0⟩
  try dsimp only
  ihave Hm := (Entails.of_eq ((max_leaves c _).trans (bigSep8 _))) $$ Hm
  icases Hm with ⟨Hm0, Hm1, Hm2, Hm3, Hm4, Hm5, Hm6, Hm7⟩
  unfold rows
  ihave Hrows := (Entails.of_eq (bigSep7 _)) $$ Hrows
  icases Hrows with ⟨Hrow1, Hrow2, Hrow3, Hrow4, Hrow5, Hrow6, Hrow7⟩
  ihave HD := (Entails.of_eq (bigSep7 _)) $$ HD
  icases HD with ⟨⟨Hta1, Htb1⟩, ⟨Hta2, Htb2⟩, ⟨Hta3, Htb3⟩, ⟨Hta4, Htb4⟩, ⟨Hta5, Htb5⟩, ⟨Hta6, Htb6⟩, ⟨Hta7, Htb7⟩⟩
  ihave Ha1 : aPre m ρ c 1 $$ [Hm1 Hrow1 Hta1 Htb1]
  · unfold aPre
    isplitl [Hm1]; · iexact Hm1
    isplitl [Hrow1]; · iexact Hrow1
    isplitl [Hta1] <;> iassumption
  ihave Ha2 : aPre m ρ c 2 $$ [Hm2 Hrow2 Hta2 Htb2]
  · unfold aPre
    isplitl [Hm2]; · iexact Hm2
    isplitl [Hrow2]; · iexact Hrow2
    isplitl [Hta2] <;> iassumption
  ihave Ha3 : aPre m ρ c 3 $$ [Hm3 Hrow3 Hta3 Htb3]
  · unfold aPre
    isplitl [Hm3]; · iexact Hm3
    isplitl [Hrow3]; · iexact Hrow3
    isplitl [Hta3] <;> iassumption
  ihave Ha4 : aPre m ρ c 4 $$ [Hm4 Hrow4 Hta4 Htb4]
  · unfold aPre
    isplitl [Hm4]; · iexact Hm4
    isplitl [Hrow4]; · iexact Hrow4
    isplitl [Hta4] <;> iassumption
  ihave Ha5 : aPre m ρ c 5 $$ [Hm5 Hrow5 Hta5 Htb5]
  · unfold aPre
    isplitl [Hm5]; · iexact Hm5
    isplitl [Hrow5]; · iexact Hrow5
    isplitl [Hta5] <;> iassumption
  ihave Ha6 : aPre m ρ c 6 $$ [Hm6 Hrow6 Hta6 Htb6]
  · unfold aPre
    isplitl [Hm6]; · iexact Hm6
    isplitl [Hrow6]; · iexact Hrow6
    isplitl [Hta6] <;> iassumption
  ihave Ha7 : aPre m ρ c 7 $$ [Hm7 Hrow7 Hta7 Htb7]
  · unfold aPre
    isplitl [Hm7]; · iexact Hm7
    isplitl [Hrow7]; · iexact Hrow7
    isplitl [Hta7] <;> iassumption
  iapply (wp_seq (part11_wp m ρ K c)) $$ [Ho Ha1 Ha2]
  · isplitr; · iexact HE
    isplitl [Ho]; · iexact Ho
    isplitl [Ha1]; · iexact Ha1
    iexact Ha2
  iintro %r ⟨Ho, Ha1, Ha2⟩
  obtain ⟨w1, w2⟩ := r
  try dsimp only
  iapply (wp_seq (part12_wp m ρ K c)) $$ [Ho Ha3 Ha4]
  · isplitr; · iexact HE
    isplitl [Ho]; · iexact Ho
    isplitl [Ha3]; · iexact Ha3
    iexact Ha4
  iintro %r ⟨Ho, Ha3, Ha4⟩
  obtain ⟨w3, w4, w5⟩ := r
  try dsimp only
  iapply (wp_seq (part13_wp m ρ K c _ _)) $$ [Ho Ha5 Ha6]
  · isplitr; · iexact HE
    isplitl [Ho]; · iexact Ho
    isplitl [Ha5]; · iexact Ha5
    iexact Ha6
  iintro %r ⟨Ho, Ha5, Ha6⟩
  obtain ⟨w6, w7, w8, w9⟩ := r
  try dsimp only
  ihave HE4 := (Entails.of_eq (bigSep7 _)) $$ HE4
  icases HE4 with ⟨⟨Hcc1, Hpp1⟩, ⟨Hcc2, Hpp2⟩, ⟨Hcc3, Hpp3⟩, ⟨Hcc4, Hpp4⟩, ⟨Hcc5, Hpp5⟩, ⟨Hcc6, Hpp6⟩, ⟨Hcc7, Hpp7⟩⟩
  iapply (wp_seq (part14_wp m ρ K c _ _ _ _ _ _ _)) $$ [Ho Ha7 Hcc1 Hpp1 Hcc2 Hpp2 Hcc3 Hpp3]
  · isplitr; · iexact HE
    isplitl [Ho]; · iexact Ho
    isplitl [Ha7]; · iexact Ha7
    isplitl [Hcc1]; · iexact Hcc1
    isplitl [Hpp1]; · iexact Hpp1
    isplitl [Hcc2]; · iexact Hcc2
    isplitl [Hpp2]; · iexact Hpp2
    isplitl [Hcc3]; · iexact Hcc3
    iexact Hpp3
  iintro %r ⟨Ho, Ha7, Hpp1, Hr1, Hpp2, Hr2, Hpp3, Hr3⟩
  try dsimp only
  iapply (wp_seq (part15_wp m ρ K c _ _ _ _)) $$ [Ho Hr0 Hr1 Hr2 Hr3 Hcc4 Hpp4 Hcc5 Hpp5 Hcc6 Hpp6 Hcc7 Hpp7]
  · isplitr; · iexact HE
    isplitl [Ho]; · iexact Ho
    isplitl [Hr0]; · iexact Hr0
    isplitl [Hr1]; · iexact Hr1
    isplitl [Hr2]; · iexact Hr2
    isplitl [Hr3]; · iexact Hr3
    isplitl [Hcc4]; · iexact Hcc4
    isplitl [Hpp4]; · iexact Hpp4
    isplitl [Hcc5]; · iexact Hcc5
    isplitl [Hpp5]; · iexact Hpp5
    isplitl [Hcc6]; · iexact Hcc6
    isplitl [Hpp6]; · iexact Hpp6
    isplitl [Hcc7]; · iexact Hcc7
    iexact Hpp7
  iintro %r ⟨%h, Ho, Htab, Hpp4, Hpp5, Hpp6, Hpp7⟩
  obtain ⟨v1, v2, w10, w11⟩ := r
  try dsimp only at h
  obtain ⟨rfl, rfl⟩ := h
  try dsimp only
  ihave Hcp := ((Entails.of_eq (bigSep8 _).symm).trans (cPost_all m ρ c)) $$ [Hc0 Hc1 Hc2 Hc3 Hc4 Hc5 Hc6 Hc7]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  icases Hcp with ⟨Hr0, Hcopy⟩
  ihave HF := (Entails.of_eq (bigSep7 _)) $$ HF
  icases HF with ⟨⟨Hcc1, Hqq1⟩, ⟨Hcc2, Hqq2⟩, ⟨Hcc3, Hqq3⟩, ⟨Hcc4, Hqq4⟩, ⟨Hcc5, Hqq5⟩, ⟨Hcc6, Hqq6⟩, ⟨Hcc7, Hqq7⟩⟩
  ihave HI := (Entails.of_eq (bigSep8 _)) $$ HI
  icases HI with ⟨Hu0, Hu1, Hu2, Hu3, Hu4, Hu5, Hu6, Hu7⟩
  iapply (wp_seq (part16_wp m ρ K c _ _)) $$ [Ho Hr0 Hu0 Hcc1 Hqq1]
  · isplitr; · iexact HE
    isplitl [Ho]; · iexact Ho
    isplitl [Hr0]; · iexact Hr0
    isplitl [Hu0]; · iexact Hu0
    isplitl [Hcc1]; · iexact Hcc1
    iexact Hqq1
  iintro %r ⟨Ho, Hr0, Hu0, Hr1, Hqq1⟩
  obtain ⟨w12, w13, w14⟩ := r
  try dsimp only
  iapply (wp_seq (part17_wp m ρ K c _ _ _)) $$ [Ho Hr1 Hu1 Hcc2 Hqq2]
  · isplitr; · iexact HE
    isplitl [Ho]; · iexact Ho
    isplitl [Hr1]; · iexact Hr1
    isplitl [Hu1]; · iexact Hu1
    isplitl [Hcc2]; · iexact Hcc2
    iexact Hqq2
  iintro %r ⟨Ho, Hr1, Hu1, Hr2, Hqq2⟩
  obtain ⟨w15, w16⟩ := r
  try dsimp only
  iapply (wp_seq (part18_wp m ρ K c _ _)) $$ [Ho Hr2 Hu2 Hcc3 Hqq3]
  · isplitr; · iexact HE
    isplitl [Ho]; · iexact Ho
    isplitl [Hr2]; · iexact Hr2
    isplitl [Hu2]; · iexact Hu2
    isplitl [Hcc3]; · iexact Hcc3
    iexact Hqq3
  iintro %r ⟨Ho, Hr2, Hu2, Hr3, Hqq3⟩
  try dsimp only
  iapply (wp_seq (part19_wp m ρ K c)) $$ [Ho Hr3 Hu3]
  · isplitr; · iexact HE
    isplitl [Ho]; · iexact Ho
    isplitl [Hr3]; · iexact Hr3
    iexact Hu3
  iintro %r ⟨Ho, Hr3, Hu3⟩
  try dsimp only
  iapply (wp_seq (part20_wp m ρ K c)) $$ [Ho Hcc4 Hqq4 Hu4]
  · isplitr; · iexact HE
    isplitl [Ho]; · iexact Ho
    isplitl [Hcc4]; · iexact Hcc4
    isplitl [Hqq4]; · iexact Hqq4
    iexact Hu4
  iintro %r ⟨Ho, Hr4, Hu4, Hqq4⟩
  try dsimp only
  iapply (wp_seq (part21_wp m ρ K c)) $$ [Ho Hcc5 Hqq5 Hu5]
  · isplitr; · iexact HE
    isplitl [Ho]; · iexact Ho
    isplitl [Hcc5]; · iexact Hcc5
    isplitl [Hqq5]; · iexact Hqq5
    iexact Hu5
  iintro %r ⟨Ho, Hr5, Hu5, Hqq5⟩
  try dsimp only
  iapply (wp_seq (part22_wp m ρ K c)) $$ [Ho Hcc6 Hqq6 Hu6]
  · isplitr; · iexact HE
    isplitl [Ho]; · iexact Ho
    isplitl [Hcc6]; · iexact Hcc6
    isplitl [Hqq6]; · iexact Hqq6
    iexact Hu6
  iintro %r ⟨Ho, Hr6, Hu6, Hqq6⟩
  obtain ⟨w17, w18⟩ := r
  try dsimp only
  iapply (wp_seq (part23_wp m ρ K c _ _)) $$ [Ho Hcc7 Hqq7 Hu7]
  · isplitr; · iexact HE
    isplitl [Ho]; · iexact Ho
    isplitl [Hcc7]; · iexact Hcc7
    isplitl [Hqq7]; · iexact Hqq7
    iexact Hu7
  iintro %r ⟨%h, Ho, Hr7, Hu7, Hqq7⟩
  try dsimp only at h
  obtain rfl := h
  try dsimp only
  ihave HG := (Entails.of_eq (bigSep8 _)) $$ HG
  icases HG with ⟨Hp0, Hp1, Hp2, Hp3, Hp4, Hp5, Hp6, Hp7⟩
  ihave HH := (Entails.of_eq (bigSep7 _)) $$ HH
  icases HH with ⟨Hq1, Hq2, Hq3, Hq4, Hq5, Hq6, Hq7⟩
  iapply (wp_seq (part24_wp m ρ K c)) $$ [Ho Hd0 Hp0 Hd1 Hp1 Hd2 Hp2 Hd3 Hp3 Hd4 Hp4 Hd5 Hp5 Hd6 Hp6 Hd7 Hp7 Ha1 Hq1]
  · isplitr; · iexact HE
    isplitl [Ho]; · iexact Ho
    isplitl [Hd0]; · iexact Hd0
    isplitl [Hp0]; · iexact Hp0
    isplitl [Hd1]; · iexact Hd1
    isplitl [Hp1]; · iexact Hp1
    isplitl [Hd2]; · iexact Hd2
    isplitl [Hp2]; · iexact Hp2
    isplitl [Hd3]; · iexact Hd3
    isplitl [Hp3]; · iexact Hp3
    isplitl [Hd4]; · iexact Hd4
    isplitl [Hp4]; · iexact Hp4
    isplitl [Hd5]; · iexact Hd5
    isplitl [Hp5]; · iexact Hp5
    isplitl [Hd6]; · iexact Hd6
    isplitl [Hp6]; · iexact Hp6
    isplitl [Hd7]; · iexact Hd7
    isplitl [Hp7]; · iexact Hp7
    isplitl [Ha1]; · iexact Ha1
    iexact Hq1
  iintro %r ⟨Ho, Hd0, Hp0, Hd1, Hp1, Hd2, Hp2, Hd3, Hp3, Hd4, Hp4, Hd5, Hp5, Hd6, Hp6, Hd7, Hp7, Ha1, Hq1⟩
  try dsimp only
  iapply (sentMax_wait m ρ K (c := c) 2 (by decide) (sem7 2 rfl _)) $$ [Ho Ha2 Hq2]
  · isplitr; · iexact HE
    isplitl [Ha2]; · iexact Ha2
    isplitl [Ho] <;> iassumption
  iintro ⟨Ho, Hq2, Ha2⟩
  iapply (sentMax_wait m ρ K (c := c) 3 (by decide) (sem7 3 rfl _)) $$ [Ho Ha3 Hq3]
  · isplitr; · iexact HE
    isplitl [Ha3]; · iexact Ha3
    isplitl [Ho] <;> iassumption
  iintro ⟨Ho, Hq3, Ha3⟩
  iapply (sentMax_wait m ρ K (c := c) 4 (by decide) (sem7 4 rfl _)) $$ [Ho Ha4 Hq4]
  · isplitr; · iexact HE
    isplitl [Ha4]; · iexact Ha4
    isplitl [Ho] <;> iassumption
  iintro ⟨Ho, Hq4, Ha4⟩
  iapply (sentMax_wait m ρ K (c := c) 5 (by decide) (sem7 5 rfl _)) $$ [Ho Ha5 Hq5]
  · isplitr; · iexact HE
    isplitl [Ha5]; · iexact Ha5
    isplitl [Ho] <;> iassumption
  iintro ⟨Ho, Hq5, Ha5⟩
  rw [wp_ret]
  imodintro
  unfold bodyMid
  isplitl [Ho]; · iexact Ho
  isplitl [Hx]; · iexact Hx
  isplitl [Hw]; · iexact Hw
  isplitl [Hbar]; · iexact Hbar
  isplitl [Hcopy]; · iexact Hcopy
  isplitl [Htab]; · iexact Htab
  isplitl [Hd0 Hp0 Hd1 Hp1 Hd2 Hp2 Hd3 Hp3 Hd4 Hp4 Hd5 Hp5 Hd6 Hp6 Hd7 Hp7]
  · rw [bigSep8]
    isplitl [Hd0 Hp0]; · isplitl [Hd0] <;> iassumption
    isplitl [Hd1 Hp1]; · isplitl [Hd1] <;> iassumption
    isplitl [Hd2 Hp2]; · isplitl [Hd2] <;> iassumption
    isplitl [Hd3 Hp3]; · isplitl [Hd3] <;> iassumption
    isplitl [Hd4 Hp4]; · isplitl [Hd4] <;> iassumption
    isplitl [Hd5 Hp5]; · isplitl [Hd5] <;> iassumption
    isplitl [Hd6 Hp6]; · isplitl [Hd6] <;> iassumption
    isplitl [Hd7] <;> iassumption
  isplitl [Hr0]; · iexact Hr0
  isplitl [Hr1 Hqq1 Hr2 Hqq2 Hr3 Hqq3 Hr4 Hqq4 Hr5 Hqq5 Hr6 Hqq6 Hr7 Hqq7]
  · rw [bigSep7]
    isplitl [Hr1 Hqq1]; · isplitl [Hr1] <;> iassumption
    isplitl [Hr2 Hqq2]; · isplitl [Hr2] <;> iassumption
    isplitl [Hr3 Hqq3]; · isplitl [Hr3] <;> iassumption
    isplitl [Hr4 Hqq4]; · isplitl [Hr4] <;> iassumption
    isplitl [Hr5 Hqq5]; · isplitl [Hr5] <;> iassumption
    isplitl [Hr6 Hqq6]; · isplitl [Hr6] <;> iassumption
    isplitl [Hr7] <;> iassumption
  isplitl [Hpp1 Hpp2 Hpp3 Hpp4 Hpp5 Hpp6 Hpp7]
  · rw [bigSep7]
    isplitl [Hpp1]; · iexact Hpp1
    isplitl [Hpp2]; · iexact Hpp2
    isplitl [Hpp3]; · iexact Hpp3
    isplitl [Hpp4]; · iexact Hpp4
    isplitl [Hpp5]; · iexact Hpp5
    isplitl [Hpp6]; · iexact Hpp6
    iexact Hpp7
  isplitl [Hu0 Hu1 Hu2 Hu3 Hu4 Hu5 Hu6 Hu7]
  · rw [bigSep8]
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    iexact Hu7
  isplitl [Hm0]; · iexact Hm0
  isplitl [Ha1 Hq1]; · isplitl [Ha1] <;> iassumption
  isplitl [Ha2 Hq2]; · isplitl [Ha2] <;> iassumption
  isplitl [Ha3 Hq3]; · isplitl [Ha3] <;> iassumption
  isplitl [Ha4 Hq4]; · isplitl [Ha4] <;> iassumption
  isplitl [Ha5 Hq5]; · isplitl [Ha5] <;> iassumption
  isplitl [Ha6 Hq6]; · isplitl [Ha6] <;> iassumption
  isplitl [Ha7] <;> iassumption

theorem body_wp (c : Dev nD) : iprop(env m ρ K ∗ bodyPre m ρ c) ⊢ wp frame (wpE (defs₀ (F := F)) 𝒱₀ (c : Thread nD τ) none) Set.univ (cc0_body (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8) (fun _ => bodyPost m ρ c) := by
  rw [cc0_body_eq_skeleton]
  unfold cc0_body_skel
  simp only [Prog.lift, Prog.bind_op, Prog.bind_ret, Prog.pure_eq_ret]
  iintro ⟨#HE, H⟩
  iapply (wp_seq (part25_wp m ρ K c)) $$ [H]
  · isplitr; · iexact HE
    iexact H
  unfold bodyMid bodyPost
  iintro %r ⟨Ho, Hx, Hw, H1, H2, H3, H4, H5, H6, H7, H8, H9, ⟨Ha1, Hq1⟩, ⟨Ha2, Hq2⟩, ⟨Ha3, Hq3⟩, ⟨Ha4, Hq4⟩, ⟨Ha5, Hq5⟩, ⟨Ha6, Hq6⟩, ⟨Ha7, Hq7⟩⟩
  iapply (sentMax_wait m ρ K (c := c) 6 (by decide) (sem7 6 rfl _)) $$ [Ho Ha6 Hq6]
  · isplitr; · iexact HE
    isplitl [Ha6]; · iexact Ha6
    isplitl [Ho] <;> iassumption
  iintro ⟨Ho, Hq6, Ha6⟩
  iapply (sentMax_wait m ρ K (c := c) 7 (by decide) (sem7 7 rfl _)) $$ [Ho Ha7 Hq7]
  · isplitr; · iexact HE
    isplitl [Ha7]; · iexact Ha7
    isplitl [Ho] <;> iassumption
  iintro ⟨Ho, Hq7, Ha7⟩
  rw [wp_ret]
  imodintro
  isplitl [Ho]; · iexact Ho
  isplitl [Hx]; · iexact Hx
  isplitl [Hw]; · iexact Hw
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [bigSep7]
  isplitl [Ha1 Hq1]; · isplitl [Ha1] <;> iassumption
  isplitl [Ha2 Hq2]; · isplitl [Ha2] <;> iassumption
  isplitl [Ha3 Hq3]; · isplitl [Ha3] <;> iassumption
  isplitl [Ha4 Hq4]; · isplitl [Ha4] <;> iassumption
  isplitl [Ha5 Hq5]; · isplitl [Ha5] <;> iassumption
  isplitl [Ha6 Hq6]; · isplitl [Ha6] <;> iassumption
  isplitl [Ha7] <;> iassumption

end Cert.Fused

end
-- ==== Proof.Deal.lean ====
/-
Dealing the tokens, the positions and the credit of the schedule to the devices.
-/
module

public import proofs.«01_k».proof.Proof.Body

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over the semaphores -/

theorem fewer_of {I : Type} [DecidableEq I] {S T : Finset I} (h : T ⊆ S) (Φ : I → sProp 𝕄) : (bigSep S Φ : sProp 𝕄) ⊢ bigSep T Φ := bigSep_subset h
theorem each {I : Type} {S : Finset I} {Φ Ψ : I → sProp 𝕄} (h : ∀ i ∈ S, Φ i ⊢ Ψ i) : (bigSep S Φ : sProp 𝕄) ⊢ bigSep S Ψ := bigSep_mono h

def slotSum : Unit ⊕ Unit ⊕ Fin 8 ⊕ Fin 8 ⊕ Fin 8 ⊕ Fin 8 ≃ Slot where
  toFun
    | .inl _ => .bar
    | .inr (.inl _) => .copy
    | .inr (.inr (.inl j)) => .ds j
    | .inr (.inr (.inr (.inl j))) => .dr j
    | .inr (.inr (.inr (.inr (.inl j)))) => .sa j
    | .inr (.inr (.inr (.inr (.inr j)))) => .ra j
  invFun
    | .bar => .inl ()
    | .copy => .inr (.inl ())
    | .ds j => .inr (.inr (.inl j))
    | .dr j => .inr (.inr (.inr (.inl j)))
    | .sa j => .inr (.inr (.inr (.inr (.inl j))))
    | .ra j => .inr (.inr (.inr (.inr (.inr j))))
  left_inv := by rintro (_ | _ | _ | _ | _ | _) <;> rfl
  right_inv := by rintro (_ | _ | _ | _ | _ | _) <;> rfl

theorem slots_eq (Φ : Slot → sProp 𝕄) : (bigSep Finset.univ Φ : sProp 𝕄)
    = iprop(Φ .bar ∗ Φ .copy ∗ (bigSep Finset.univ fun j : Fin 8 => Φ (.ds j)) ∗ (bigSep Finset.univ fun j : Fin 8 => Φ (.dr j))
        ∗ (bigSep Finset.univ fun j : Fin 8 => Φ (.sa j)) ∗ (bigSep Finset.univ fun j : Fin 8 => Φ (.ra j))) := by
  rw [bigSep_univ_equiv slotSum Φ, bigSep_univ_sum, bigSep_univ_sum, bigSep_univ_sum, bigSep_univ_sum, bigSep_univ_sum,
    bigSep_univ_of_subsingleton (), bigSep_univ_of_subsingleton ()]
  rfl

theorem sm_injective : Function.Injective Slot.sm := by decide

theorem cellAt_injective : Function.Injective (fun p : Dev nD × Slot => cellAt p.1 p.2) := by
  rintro ⟨c, k⟩ ⟨c', k'⟩ h
  have h1 : c = c' := congrArg (fun g : GSem nD τ sig => g.1.1) h
  have h2 : k.sm = k'.sm := congrArg Prod.snd h
  rw [h1, sm_injective h2]

/-! ## Tokens -/

abbrev tokAt (p : Dev nD × Slot × Fin 8) : GSem nD τ sig × ℕ × Fin 8 := (cellAt p.1 p.2.1, 0, p.2.2)
theorem tokAt_injective : Function.Injective tokAt := by
  rintro ⟨c, k, d⟩ ⟨c', k', d'⟩ h
  have h1 := cellAt_injective (a₁ := (c, k)) (a₂ := (c', k')) (congrArg Prod.fst h)
  have h2 : d = d' := congrArg (fun x : GSem nD τ sig × ℕ × Fin 8 => x.2.2) h
  cases h1; cases h2; rfl

def theCells : Finset (GSem nD τ sig) := Finset.univ.map ⟨_, cellAt_injective⟩
def theToks : Finset (GSem nD τ sig × ℕ × Fin 8) := Finset.univ.map ⟨_, tokAt_injective⟩

def u₀ : UU :=
  (initOf (Pipeline.cells cfgs cellOf_inj) (Pipeline.launchToks cfgs cellOf_inj), initOf theCells theToks)

/-- The tokens of a device's own semaphores. -/
def toks (c : Dev nD) : sProp 𝕄 := bigSep Finset.univ fun p : Slot × Fin 8 => tok c p.1 p.2
/-- The tokens a device spends. -/
def payToks (c : Dev nD) : sProp 𝕄 := iprop((bigSep (Finset.univ.erase 0) fun t : Fin 8 => tok (F := F) (c + t) .bar (-t))
  ∗ tok c .copy 0
  ∗ (bigSep Finset.univ fun j : Fin 8 => tok (F := F) c (.ds j) 0)
  ∗ (bigSep Finset.univ fun j : Fin 8 => tok (F := F) j (.dr (j - c)) 0)
  ∗ (bigSep (Finset.univ.erase 0) fun t : Fin 8 => tok (F := F) c (.sa t) 0)
  ∗ (bigSep (Finset.univ.erase 0) fun t : Fin 8 => tok (F := F) (c + t) (.ra t) 0))

theorem toks_own (c : Dev nD) : toks (F := F) c ⊢ iprop((bigSep Finset.univ fun d : Fin 8 => tok (F := F) c .bar d)
    ∗ tok c .copy 0
    ∗ (bigSep Finset.univ fun j : Fin 8 => tok (F := F) c (.ds j) 0)
    ∗ (bigSep Finset.univ fun j : Fin 8 => tok (F := F) c (.dr j) 0)
    ∗ (bigSep Finset.univ fun j : Fin 8 => tok (F := F) c (.sa j) 0)
    ∗ (bigSep Finset.univ fun j : Fin 8 => tok (F := F) c (.ra j) 0)) := by
  unfold toks
  rw [bigSep_univ_prod, slots_eq]
  exact BI.sep_mono (BI.Entails.refl _) (BI.sep_mono (elim_at _ 0) (BI.sep_mono (each fun j _ => elim_at _ 0)
    (BI.sep_mono (each fun j _ => elim_at _ 0) (BI.sep_mono (each fun j _ => elim_at _ 0) (each fun j _ => elim_at _ 0)))))

def turn8 (t : Fin 8) : Fin 8 ≃ Fin 8 where
  toFun c := c + t
  invFun c := c - t
  left_inv := by revert t; decide
  right_inv := by revert t; decide
def neg8 : Fin 8 ≃ Fin 8 where
  toFun t := -t
  invFun t := -t
  left_inv := by decide
  right_inv := by decide

theorem around (Φ : Fin 8 → Fin 8 → sProp 𝕄) : (bigSep Finset.univ fun c : Fin 8 => bigSep Finset.univ fun t : Fin 8 => Φ c t)
    = (bigSep Finset.univ fun c : Fin 8 => bigSep Finset.univ fun t : Fin 8 => Φ (c + t) t) := by
  rw [bigSep_univ_comm, bigSep_univ_comm (fun c t => Φ (c + t) t)]
  exact bigSep_congr fun t _ => bigSep_univ_equiv (turn8 t) _

theorem fewer (Φ : Fin 8 → Fin 8 → sProp 𝕄) : (bigSep Finset.univ fun c : Fin 8 => bigSep Finset.univ fun t : Fin 8 => Φ c t)
    ⊢ (bigSep Finset.univ fun c : Fin 8 => bigSep (Finset.univ.erase 0) fun t : Fin 8 => Φ c t) :=
  each fun c _ => fewer_of (Finset.erase_subset _ _) _

theorem around_bar : (bigSep Finset.univ fun c : Fin 8 => bigSep Finset.univ fun d : Fin 8 => tok (F := F) c .bar d)
    ⊢ (bigSep Finset.univ fun c : Fin 8 => bigSep (Finset.univ.erase 0) fun t : Fin 8 => tok (F := F) (c + t) .bar (-t)) := by
  have e : (bigSep Finset.univ fun c : Fin 8 => bigSep Finset.univ fun d : Fin 8 => tok (F := F) c .bar d)
      = (bigSep Finset.univ fun c : Fin 8 => bigSep Finset.univ fun t : Fin 8 => tok (F := F) c .bar (-t)) :=
    bigSep_congr fun c _ => bigSep_univ_equiv neg8 _
  rw [e, around (fun c t => tok (F := F) c .bar (-t))]
  exact fewer _

theorem around_dr : (bigSep Finset.univ fun c : Fin 8 => bigSep Finset.univ fun s : Fin 8 => tok (F := F) c (.dr s) 0)
    = (bigSep Finset.univ fun c : Fin 8 => bigSep Finset.univ fun j : Fin 8 => tok (F := F) j (.dr (j - c)) 0) := by
  rw [around (fun c s => tok (F := F) c (.dr s) 0)]
  refine bigSep_congr fun c _ => ?_
  rw [bigSep_univ_equiv (shift8 c) (fun j : Fin 8 => tok (F := F) j (.dr (j - c)) 0)]
  exact bigSep_congr fun t _ => by
    show _ = tok (c + t) (.dr (c + t - c)) 0
    rw [add_sub_left8]

theorem around_ra : (bigSep Finset.univ fun c : Fin 8 => bigSep Finset.univ fun s : Fin 8 => tok (F := F) c (.ra s) 0)
    ⊢ (bigSep Finset.univ fun c : Fin 8 => bigSep (Finset.univ.erase 0) fun t : Fin 8 => tok (F := F) (c + t) (.ra t) 0) := by
  rw [around (fun c s => tok (F := F) c (.ra s) 0)]
  exact fewer _

theorem toks_around : (bigSep Finset.univ fun c : Dev nD => toks (F := F) c) ⊢ (bigSep Finset.univ fun c : Dev nD => payToks (F := F) c) := by
  refine (each fun c _ => toks_own (F := F) c).trans ?_
  unfold payToks
  simp only [bigSep_sep']
  show _ ⊢ _
  iintro ⟨H1, H2, H3, H4, H5, H6⟩
  isplitl [H1]; · iapply (around_bar (F := F)) $$ H1
  isplitl [H2]; · iexact H2
  isplitl [H3]; · iexact H3
  isplitl [H4]; · iapply (Entails.of_eq (around_dr (F := F))) $$ H4
  isplitl [H5]; · iapply (fewer fun c t => tok (F := F) c (.sa t) 0) $$ H5
  iapply (around_ra (F := F)) $$ H6

/-! ## Credit at launch -/

def O₀ (c : Dev nD) : CellTallies nD τ sig Unit := left c 0

theorem total_apply (l : List (CellTallies nD τ sig Unit)) (g : GSem nD τ sig) (u : Unit) : total l g u = (l.map fun x => x g u).sum := by
  induction l with
  | nil => rfl
  | cons x l ih =>
    rw [List.map_cons, List.sum_cons, ← ih, Nat.add_comm]
    rfl

theorem cell_iff {a b : Dev nD} {k k' : Slot} : (cellAt a k = cellAt b k') ↔ (a = b ∧ k = k') :=
  ⟨fun h => by have := cellAt_injective (a₁ := (a, k)) (a₂ := (b, k')) h; cases this; exact ⟨rfl, rfl⟩, fun ⟨h, h'⟩ => by rw [h, h']⟩

theorem tally_at (a b : Dev nD) (k k' : Slot) (n : ℕ) :
    (tallyAt (cellAt a k) () n : CellTallies nD τ sig Unit) (cellAt b k') () = (if b = a ∧ k' = k then 1 else 0) * n := by
  rw [tallyAt_apply]
  by_cases h : b = a ∧ k' = k
  · rw [if_pos h, if_pos ⟨cell_iff.mpr h, rfl⟩, Nat.one_mul]
  · rw [if_neg h, if_neg fun h' => h (cell_iff.mp h'.1), Nat.zero_mul]
theorem bI_at (d t : Fin 8) (c : Dev nD) (k : Slot) : bI d t (cellAt c k) () = (if c = d + t ∧ k = .bar then 1 else 0) * 1 := tally_at (d + t) c .bar k 1
theorem aI_at (d t : Fin 8) (c : Dev nD) (k : Slot) : aI d t (cellAt c k) () = (if c = d + t ∧ k = .ra t then 1 else 0) * Na := tally_at (d + t) c (.ra t) k Na
theorem dI_at (d j : Fin 8) (c : Dev nD) (k : Slot) : dI d j (cellAt c k) () = (if j ≠ d ∧ c = j ∧ k = .dr (j - d) then 1 else 0) * Nd := by
  unfold dI
  by_cases h : j = d
  · rw [if_pos h, if_neg (fun h' => h'.1 h), Nat.zero_mul]; rfl
  · rw [if_neg h]
    refine (tally_at j c (.dr (j - d)) k Nd).trans ?_
    congr 1
    simp [h]

theorem owed_at (d c : Dev nD) (k : Slot) : O₀ d (cellAt c k) ()
    = ((List.map (fun t : Fin 8 => if c = d + t ∧ k = .bar then 1 else 0) [1, 2, 3, 4, 5, 6, 7]).sum
      + (List.map (fun j : Fin 8 => if j ≠ d ∧ c = j ∧ k = .dr (j - d) then 1 else 0) [0, 1, 2, 3, 4, 5, 6, 7]).sum * Nd)
      + (List.map (fun t : Fin 8 => if c = d + t ∧ k = .ra t then 1 else 0) [1, 2, 3, 4, 5, 6, 7]).sum * Na := by
  have hb : ((fun x : CellTallies nD τ sig Unit => x (cellAt c k) ()) ∘ fun t : Fin 8 => bI d t) = fun t : Fin 8 => if c = d + t ∧ k = .bar then 1 else 0 :=
    funext fun t => (bI_at d t c k).trans (Nat.mul_one _)
  have hd : ((fun x : CellTallies nD τ sig Unit => x (cellAt c k) ()) ∘ fun j : Fin 8 => dI d j) = fun j : Fin 8 => (if j ≠ d ∧ c = j ∧ k = .dr (j - d) then 1 else 0) * Nd :=
    funext fun j => dI_at d j c k
  have ha : ((fun x : CellTallies nD τ sig Unit => x (cellAt c k) ()) ∘ fun t : Fin 8 => aI d t) = fun t : Fin 8 => (if c = d + t ∧ k = .ra t then 1 else 0) * Na :=
    funext fun t => aI_at d t c k
  have hi : items d = (List.map (fun t : Fin 8 => bI d t) [1, 2, 3, 4, 5, 6, 7] ++ List.map (fun j : Fin 8 => dI d j) [0, 1, 2, 3, 4, 5, 6, 7])
      ++ List.map (fun t : Fin 8 => aI d t) [1, 2, 3, 4, 5, 6, 7] := rfl
  unfold O₀ left
  rw [List.drop_zero, total_apply, hi, List.map_append, List.map_append, List.sum_append, List.sum_append, List.map_map, List.map_map, List.map_map, hb, hd, ha,
    List.sum_map_mul_right, List.sum_map_mul_right]

theorem count_bar : ∀ c : Fin 8, (Finset.univ.sum fun d : Fin 8 => (List.map (fun t : Fin 8 => if c = d + t ∧ Slot.bar = .bar then 1 else 0) [1, 2, 3, 4, 5, 6, 7]).sum) = 7
    ∧ (Finset.univ.sum fun d : Fin 8 => (List.map (fun j : Fin 8 => if j ≠ d ∧ c = j ∧ Slot.bar = .dr (j - d) then 1 else 0) [0, 1, 2, 3, 4, 5, 6, 7]).sum) = 0
    ∧ (Finset.univ.sum fun d : Fin 8 => (List.map (fun t : Fin 8 => if c = d + t ∧ Slot.bar = .ra t then 1 else 0) [1, 2, 3, 4, 5, 6, 7]).sum) = 0 := by
  decide +kernel
theorem count_dr : ∀ c s : Fin 8, s ≠ 0 → (Finset.univ.sum fun d : Fin 8 => (List.map (fun t : Fin 8 => if c = d + t ∧ Slot.dr s = .bar then 1 else 0) [1, 2, 3, 4, 5, 6, 7]).sum) = 0
    ∧ (Finset.univ.sum fun d : Fin 8 => (List.map (fun j : Fin 8 => if j ≠ d ∧ c = j ∧ Slot.dr s = .dr (j - d) then 1 else 0) [0, 1, 2, 3, 4, 5, 6, 7]).sum) = 1
    ∧ (Finset.univ.sum fun d : Fin 8 => (List.map (fun t : Fin 8 => if c = d + t ∧ Slot.dr s = .ra t then 1 else 0) [1, 2, 3, 4, 5, 6, 7]).sum) = 0 := by
  decide +kernel
theorem count_ra : ∀ c s : Fin 8, s ≠ 0 → (Finset.univ.sum fun d : Fin 8 => (List.map (fun t : Fin 8 => if c = d + t ∧ Slot.ra s = .bar then 1 else 0) [1, 2, 3, 4, 5, 6, 7]).sum) = 0
    ∧ (Finset.univ.sum fun d : Fin 8 => (List.map (fun j : Fin 8 => if j ≠ d ∧ c = j ∧ Slot.ra s = .dr (j - d) then 1 else 0) [0, 1, 2, 3, 4, 5, 6, 7]).sum) = 0
    ∧ (Finset.univ.sum fun d : Fin 8 => (List.map (fun t : Fin 8 => if c = d + t ∧ Slot.ra s = .ra t then 1 else 0) [1, 2, 3, 4, 5, 6, 7]).sum) = 1 := by
  decide +kernel

theorem credit_at (c : Dev nD) (k : Slot) (n b d a : ℕ)
    (h : (Finset.univ.sum fun d : Fin 8 => (List.map (fun t : Fin 8 => if c = d + t ∧ k = .bar then 1 else 0) [1, 2, 3, 4, 5, 6, 7]).sum) = b
      ∧ (Finset.univ.sum fun d : Fin 8 => (List.map (fun j : Fin 8 => if j ≠ d ∧ c = j ∧ k = .dr (j - d) then 1 else 0) [0, 1, 2, 3, 4, 5, 6, 7]).sum) = d
      ∧ (Finset.univ.sum fun d : Fin 8 => (List.map (fun t : Fin 8 => if c = d + t ∧ k = .ra t then 1 else 0) [1, 2, 3, 4, 5, 6, 7]).sum) = a)
    (hn : b + d * Nd + a * Na = n) :
    tallyOn (cellAt c k) (launchCredit (Pipeline.owing O₀) 0 (cellAt c k)) = (tallyAt (cellAt c k) () n : CellTallies nD τ sig Unit) := by
  unfold tallyAt
  refine congrArg _ (Finsupp.ext fun u => ?_)
  cases u
  rw [Pipeline.launchCredit_owing, Finsupp.single_eq_same, Finset.sum_congr rfl fun d _ => owed_at d c k, Finset.sum_add_distrib, Finset.sum_add_distrib,
    ← Finset.sum_mul, ← Finset.sum_mul]
  rw [← hn, ← h.1, ← h.2.1, ← h.2.2]

def credits (c : Dev nD) : sProp 𝕄 := iprop(cred (tallyAt (barC c) () 7)
  ∗ (bigSep (Finset.univ.erase 0) fun s : Fin 8 => cred (tallyAt (drC c s) () Nd))
  ∗ (bigSep (Finset.univ.erase 0) fun s : Fin 8 => cred (tallyAt (arC c s) () Na)))

theorem creds (c : Dev nD) : (Pipeline.launchCred O₀ c : sProp 𝕄) ⊢ credits c := by
  unfold Pipeline.launchCred credits
  iintro H
  ihave H := (fewer_of (Finset.subset_univ (Finset.univ.map ⟨Slot.sm, sm_injective⟩)) _) $$ H
  ihave H := (Entails.of_eq ((bigSep_map _).trans (slots_eq _))) $$ H
  icases H with ⟨H1, -, -, H2, -, H3⟩
  isplitl [H1]
  · iapply (Entails.of_eq (congrArg cred (credit_at c .bar 7 7 0 0 (count_bar c) (by simp)))) $$ H1
  isplitl [H2]
  · iapply ((fewer_of (Finset.erase_subset 0 Finset.univ) _).trans (each fun s hs =>
      Entails.of_eq (congrArg cred (credit_at c (.dr s) Nd 0 1 0 (count_dr c s (Finset.ne_of_mem_erase hs)) (by simp))))) $$ H2
  · iapply ((fewer_of (Finset.erase_subset 0 Finset.univ) _).trans (each fun s hs =>
      Entails.of_eq (congrArg cred (credit_at c (.ra s) Na 0 0 1 (count_ra c s (Finset.ne_of_mem_erase hs)) (by simp))))) $$ H3

end Cert.Fused

end
-- ==== Proof.Enter.lean ====
/-
What a device holds at launch, split into what the body needs, and joined again at its end.
-/
module

public import proofs.«01_k».proof.Proof.Deal

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores at launch -/

/-- The kernel's own semaphores: those after the three of the staging buffers. -/
def osem (k : Fin 33) : SemLoc sig := .dma ⟨3 + k.val, by have := k.isLt; show _ < 36; omega⟩

set_option maxRecDepth 4000 in
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = bigSepL [0, 1, 2, 3, 4, 5, 6, 7, 8, 9, 10, 11, 12, 13, 14, 15, 16, 17, 18, 19, 20, 21, 22, 23, 24, 25, 26, 27, 28, 29, 30, 31, 32] (fun k : Fin 33 => semVal ((c : Thread nD τ), osem k) 0) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32] (by decide) (by decide)]
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems_eq (c : Dev nD) : (bigSep Finset.univ fun k : Slot => semVal (cellAt c k) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, bigSep_univ_eq_bigSepL slotList (by decide) (by decide)]
  rfl

/-! ## The ghost state dealt -/

/-- What is made for a device at launch. -/
def G (c : Dev nD) : sProp 𝕄 := iprop((bigSep Finset.univ fun k : Slot => roundState ER (Rd m ρ) (cellAt c k) 0)
  ∗ (bigSep Finset.univ fun k : Slot => iprop(pos0 c k ∗ reached ER (cellAt c k) 0)) ∗ toks c)
/-- What a device holds of it alone. -/
def alone (c : Dev nD) : sProp 𝕄 := iprop((bigSep Finset.univ fun k : Slot => pos0 (F := F) c k) ∗ payToks c)
/-- What a device starts with of it. -/
def G' (c : Dev nD) : sProp 𝕄 := iprop(∃ K, records m ρ K ∗ alone c)

theorem fund_all : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Slot => Φ (cellAt c k) := by
    unfold theCells; rw [bigSep_map, bigSep_univ_prod]; rfl
  have hT : bigSep theToks (fun x => (dutyTok ER x.1 x.2.1 x.2.2 : sProp 𝕄)) = bigSep Finset.univ fun c : Dev nD => toks (F := F) c := by
    unfold theToks; rw [bigSep_map, bigSep_univ_prod]; rfl
  iintro HX
  imod (Rounds.fund ER (Rd m ρ) theCells theToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Slot => iprop(∃ κ : ℕ, cellInv ER (Rd m ρ) κ (cellAt c k)))
          ∗ (bigSep Finset.univ fun k : Slot => iprop(pos0 c k ∗ reached ER (cellAt c k) 0)) ∗ toks c) := by
  unfold G
  iintro ⟨Hos, Hus, Hst, Hat, Htok⟩
  ihave Hv := (Entails.of_eq (sems_eq (F := F) c).symm) $$ [Hos Hus]
  · isplitl [Hus]; · iexact Hus
    iexact Hos
  imod (show iprop((bigSep Finset.univ fun k : Slot => semVal (cellAt c k) 0) ∗ bigSep Finset.univ fun k : Slot => roundState ER (Rd m ρ) (cellAt c k) 0)
      ⊢ (|={Set.univ}=> bigSep Finset.univ fun k : Slot => iprop(∃ κ : ℕ, cellInv ER (Rd m ρ) κ (cellAt c k)) : sProp 𝕄) from by
        rw [← bigSep_sep']
        exact (bigSep_mono fun k _ => (Rounds.body_intro ER (Rd m ρ) (cellAt c k)).trans inv_alloc).trans (bigSep_fupd _ _)) $$ [Hv Hst] with Hinv
  · isplitl [Hv] <;> iassumption
  imodintro
  isplitl [Hinv]; · iexact Hinv
  isplitl [Hat]; · iexact Hat
  iexact Htok

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem alone_intro (K : Dev nD × Slot → ℕ) (c : Dev nD) : iprop(records m ρ K ∗ alone c) ⊢ G' m ρ c := by
  unfold G'
  iintro ⟨#H, Ha⟩
  iexists K
  isplitr; · iexact H
  iexact Ha

theorem regroup :
    (bigSep Finset.univ fun c : Dev nD => iprop((bigSep Finset.univ fun k : Slot => iprop(∃ κ : ℕ, cellInv ER (Rd m ρ) κ (cellAt c k)))
          ∗ (bigSep Finset.univ fun k : Slot => iprop(pos0 c k ∗ reached ER (cellAt c k) 0)) ∗ toks c) : sProp 𝕄)
      ⊢ bigSep Finset.univ (G' m ρ) := by
  rw [bigSep_sep', bigSep_sep', ← bigSep_univ_prod (fun p : Dev nD × Slot => iprop(∃ κ : ℕ, cellInv ER (Rd m ρ) κ (cellAt p.1 p.2))),
    bigSep_congr (s := Finset.univ) (fun (c : Dev nD) _ => bigSep_sep' Finset.univ (fun k : Slot => (pos0 (F := F) c k : sProp 𝕄)) (fun k => reached ER (cellAt c k) 0)),
    bigSep_sep', ← bigSep_univ_prod (fun p : Dev nD × Slot => (reached ER (cellAt p.1 p.2) 0 : sProp 𝕄))]
  iintro ⟨HI, ⟨Hat, #HR⟩, Htok⟩
  ihave HK := (BI.bigSep_exists_pi Finset.univ (fun (p : Dev nD × Slot) (κ : ℕ) => (cellInv ER (Rd m ρ) κ (cellAt p.1 p.2) : sProp 𝕄))) $$ HI
  icases HK with ⟨%K, #HI⟩
  ihave Htk := (toks_around (F := F)) $$ Htok
  iapply (with_shared (R := records m ρ K) fun c _ => alone_intro m ρ K c)
  isplitr
  · unfold records; rw [bigSep_sep']; isplitl; · iexact HI
    iexact HR
  · unfold alone; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Into the body and out of it -/

/-- The scratch buffers, whole, at contents unknown. -/
def scratch (c : Dev nD) : sProp 𝕄 := iprop((∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f)
  ∗ (∃ f : Buf (Elt F) ((c : Thread nD τ).loc cc0_scratch2), ((c : Thread nD τ).loc cc0_scratch2) ↦{fullShare} f)
  ∗ (∃ f : Buf (Elt F) ((c : Thread nD τ).loc cc0_scratch3), ((c : Thread nD τ).loc cc0_scratch3) ↦{fullShare} f))
def oW (c : Dev nD) (f : Buf (Elt F) ((c : Thread nD τ).loc cc0_stg2_0)) : sProp 𝕄 := ((c : Thread nD τ).loc cc0_stg2_0) ↦{fullShare} f

theorem scratch_parts (c : Dev nD) : scratch (F := F) c ⊢ iprop((bigSep Finset.univ fun t : Fin 8 => sAny (F := F) c t)
    ∗ (rAny c 0 ∗ bigSep (Finset.univ.erase 0) fun t : Fin 8 => rAny (F := F) c t)
    ∗ mAny c ∗ (tAny c 0 ∗ bigSep (Finset.univ.erase 0) fun t : Fin 8 => tAny (F := F) c t)) := by
  rw [← bigSep_first, ← bigSep_first]
  unfold scratch mAny
  iintro ⟨⟨%f0, H0⟩, ⟨%f1, H1⟩, ⟨%f2, H2⟩, ⟨%f3, H3⟩⟩
  isplitl [H0]
  · ihave H0 := (Entails.of_eq (send_whole c f0)) $$ H0
    iapply (each (Ψ := fun t : Fin 8 => sAny (F := F) c t) fun t _ => show sPts c t f0 ⊢ sAny c t by unfold sAny; iintro H; iexists f0; iexact H) $$ H0
  isplitl [H1]
  · ihave H1 := (Entails.of_eq (recv_whole c f1)) $$ H1
    iapply (each (Ψ := fun t : Fin 8 => rAny (F := F) c t) fun t _ => show rPts c t f1 ⊢ rAny c t by unfold rAny; iintro H; iexists f1; iexact H) $$ H1
  isplitl [H2]
  · iexists f2; unfold mPts; iexact H2
  · ihave H3 := (Entails.of_eq (rows_whole c f3)) $$ H3
    iapply (each (Ψ := fun t : Fin 8 => tAny (F := F) c t) fun t _ => show tPts c t f3 ⊢ tAny c t by unfold tAny; iintro H; iexists f3; iexact H) $$ H3

theorem neg_erase (Φ : Fin 8 → sProp 𝕄) : (bigSep (Finset.univ.erase 0) Φ : sProp 𝕄) = bigSep (Finset.univ.erase 0) fun t : Fin 8 => Φ (-t) := by
  have h : (Finset.univ.erase (0 : Fin 8)) = (Finset.univ.erase (0 : Fin 8)).map neg8.toEmbedding := by decide
  conv_lhs => rw [h]
  rw [bigSep_map]
  rfl

theorem copy_family (c : Dev nD) : iprop(tok (F := F) c .copy 0 ∗ pos0 c .copy) ⊢ bigSep Finset.univ fun j : Fin 8 => cPre (F := F) c j := by
  have e : (bigSep Finset.univ fun j : Fin 8 => cPre (F := F) c j : sProp 𝕄) = iprop(tok (F := F) c .copy 0 ∗ pos0 c .copy) := by
    unfold cPre
    refine (bigSep_filter Finset.univ (fun j : Fin 8 => j = c) _).symm.trans ?_
    rw [Finset.filter_eq', if_pos (Finset.mem_univ _), bigSep_singleton]
  rw [e]

/-- The positions of the three semaphores nobody uses. -/
def spare (c : Dev nD) : sProp 𝕄 := iprop(pos0 (F := F) c (.dr 0) ∗ pos0 c (.sa 0) ∗ pos0 c (.ra 0))

theorem enter (c : Dev nD) (f : Buf (Elt F) ((c : Thread nD τ).loc cc0_stg2_0)) :
    iprop(alone c ∗ credits c ∗ scratch c ∗ ow c 0 ∗ xPts m ρ c ∗ wPts m ρ c ∗ oW c f) ⊢ iprop(bodyPre m ρ c ∗ spare c) := by
  unfold alone payToks credits bodyPre spare dToks gift
  simp only [bigSep_sep', slots_eq (F := F), bigSep_first (fun j : Fin 8 => pos0 (F := F) c (.dr j)), bigSep_first (fun j : Fin 8 => pos0 (F := F) c (.sa j)),
    bigSep_first (fun j : Fin 8 => pos0 (F := F) c (.ra j))]
  iintro ⟨⟨⟨Pb, Pc, Pds, ⟨Pdr0, Pdr⟩, ⟨Psa0, Psa⟩, ⟨Pra0, Pra⟩⟩, Tb, Tc, Tds, Tdr, Tsa, Tra⟩, ⟨Cb, Cd, Ca⟩, Hs, Ho, Hx, Hw, Hout⟩
  ihave Hs := (scratch_parts (F := F) c) $$ Hs
  icases Hs with ⟨Ss, ⟨Sr0, Sr⟩, Sm, ⟨St0, St⟩⟩
  isplitr [Pdr0 Psa0 Pra0]
  · isplitl [Ho]; · iexact Ho
    isplitl [Hx]; · iexact Hx
    isplitl [Hw]; · iexact Hw
    isplitl [Tb Sr St]
    · isplitl [Tb]; · iexact Tb
      isplitl [Sr]
      · iapply (Entails.of_eq (neg_erase fun t : Fin 8 => rAny (F := F) c t)) $$ Sr
      · iapply (Entails.of_eq (neg_erase fun t : Fin 8 => tAny (F := F) c t)) $$ St
    isplitl [Ss Tc Pc]
    · isplitl [Ss]; · iexact Ss
      iapply (copy_family (F := F) c)
      isplitl [Tc] <;> iassumption
    isplitl [Cb Pb Sr0 Tds Tdr St0 Sm]
    · isplitl [Cb]; · iexact Cb
      isplitl [Pb]; · iexact Pb
      isplitl [Sr0]; · iexact Sr0
      isplitl [Tds Tdr]
      · isplitl [Tds] <;> iassumption
      isplitl [St0]; · iexact St0
      iexact Sm
    isplitl [Tsa Tra]
    · isplitl [Tsa] <;> iassumption
    isplitl [Ca Pra]
    · isplitl [Ca] <;> iassumption
    isplitl [Cd Pdr]
    · isplitl [Cd] <;> iassumption
    isplitl [Pds]; · iexact Pds
    isplitl [Psa]; · iexact Psa
    unfold oW
    ihave Hout := (Entails.of_eq (result_turned c f)) $$ Hout
    iapply (each (Ψ := fun t : Fin 8 => oAny (F := F) c (c - t)) fun t _ => show oPts c (c - t) f ⊢ oAny c (c - t) by unfold oAny; iintro H; iexists f; iexact H) $$ Hout
  · isplitl [Pdr0]; · iexact Pdr0
    isplitl [Psa0] <;> iassumption

theorem close_all (K : Dev nD × Slot → ℕ) (c : Dev nD) :
    iprop(env m ρ K ∗ bigSep Finset.univ fun k : Slot => closed m ρ c k) ⊢ |={Set.univ}=> bigSep Finset.univ fun k : Slot => semVal (cellAt c k) 0 :=
  (with_shared (R := env m ρ K) fun k _ => close m ρ K c k).trans (bigSep_fupd _ _)

/-- What a device holds after the kernel. -/
def Φ₁ (c : Dev nD) : sProp 𝕄 := iprop(scratch c ∗ bigSep Finset.univ fun k : Slot => semVal (cellAt c k) 0)

theorem leave (K : Dev nD × Slot → ℕ) (c : Dev nD) :
    iprop(env m ρ K ∗ bodyPost m ρ c ∗ spare c) ⊢ |={Set.univ}=> iprop(Φ₁ c ∗ ow c 22 ∗ xPts m ρ c ∗ wPts m ρ c ∗ oW c (outB m ρ c)) := by
  unfold bodyPost spare Φ₁
  simp only [bigSep_sep']
  iintro ⟨#HE, ⟨Ho, Hx, Hw, Xb, Xc, Ht, ⟨Hs, Xds⟩, Hr0, ⟨Hr, Xdr⟩, Xra, Hout, Hm0, ⟨Hm, Xsa⟩⟩, ⟨Pdr, Psa, Pra⟩⟩
  ihave Pdr := (closed_of_unused m ρ c (.dr 0) (by rw [role_dr]; rfl)) $$ Pdr
  ihave Psa := (closed_of_unused m ρ c (.sa 0) (by rw [role_as]; rfl)) $$ Psa
  ihave Pra := (closed_of_unused m ρ c (.ra 0) (by rw [role_ar]; rfl)) $$ Pra
  imod (close_all m ρ K c) $$ [Xb Xc Xds Xdr Xra Xsa Pdr Psa Pra] with Hz
  · isplitr; · iexact HE
    simp only [slots_eq (F := F), bigSep_first (fun j : Fin 8 => closed m ρ c (.dr j)), bigSep_first (fun j : Fin 8 => closed m ρ c (.sa j)),
      bigSep_first (fun j : Fin 8 => closed m ρ c (.ra j))]
    isplitl [Xb]; · iexact Xb
    isplitl [Xc]; · iexact Xc
    isplitl [Xds]; · iexact Xds
    isplitl [Xdr Pdr]
    · isplitl [Pdr] <;> iassumption
    isplitl [Xsa Psa]
    · isplitl [Psa] <;> iassumption
    isplitl [Pra] <;> iassumption
  imodintro
  isplitl [Hs Hr0 Hr Hm0 Hm Ht Hz]
  · isplitr [Hz]
    · unfold scratch
      isplitl [Hs]
      · iexists (sendB m ρ c)
        iapply (Entails.of_eq (send_whole c (sendB m ρ c)).symm) $$ Hs
      isplitl [Hr0 Hr]
      · iexists (recvB m ρ c)
        iapply (Entails.of_eq ((recv_whole c (recvB m ρ c)).trans (bigSep_first _)).symm)
        isplitl [Hr0] <;> iassumption
      isplitl [Hm0 Hm]
      · iexists (amaxB m ρ c)
        ihave H := (Entails.of_eq ((max_leaves c (amaxB m ρ c)).trans (bigSep_first _)).symm) $$ [Hm0 Hm]
        · isplitl [Hm0] <;> iassumption
        unfold mPts
        iexact H
      · unfold tW
        iexists (tableB m ρ c)
        iexact Ht
    · iexact Hz
  isplitl [Ho]; · iexact Ho
  isplitl [Hx]; · iexact Hx
  isplitl [Hw]; · iexact Hw
  unfold oW
  iapply (Entails.of_eq (result_turned c (outB m ρ c)).symm) $$ Hout

end Cert.Fused

end
-- ==== Proof.Run.lean ====
/-
The run of the whole kernel on all eight devices.
-/
module

public import proofs.«01_k».proof.Proof.Enter
public import Idealize.ShloMosaic.Lib.Pipeline.CollectiveSegs

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

def start (c : Dev nD) : sProp 𝕄 := iprop(G' m ρ c ∗ credits c ∗ levAts L lv)
/-- What a device holds before the kernel. -/
def Φ₀ (c : Dev nD) : sProp 𝕄 := iprop(start m ρ c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xb m ρ c
    | ⟨1, _⟩ => wb m ρ c
    | ⟨2, _⟩ => outB m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def obPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
set_option maxRecDepth 4000 in
def obPost (c : Dev nD) : sProp 𝕄 :=
  iprop(Φ₁ c ∗ (dats m ρ 0 c).owesAt () t0_0.succ
    ∗ stg c cc0_stg0_0 (xb m ρ c) ∗ stg c cc0_stg1_0 (wb m ρ c) ∗ stg c cc0_stg2_0 (outB m ρ c))

set_option maxRecDepth 4000 in
theorem obPre_open (c : Dev nD) : obPre m ρ c ⊢ iprop(start m ρ c ∗ scratch c ∗ ow c 0 ∗ xPts m ρ c ∗ wPts m ρ c ∗ ∃ f, oW c f) := by
  have h0 : ∀ d, (dats m ρ 0 c).before (0 : Fin 3) t0_0 d = xb m ρ c := fun d => by unfold Dat.before; rw [if_pos (fetch_0 t0_0)]; rfl
  have h1 : ∀ d, (dats m ρ 0 c).before (1 : Fin 3) t0_0 d = wb m ρ c := fun d => by unfold Dat.before; rw [if_pos (fetch_1 t0_0)]; rfl
  unfold obPre Φ₀ Dat.owesAt Pipeline.owesWithin ow xPts wPts oW
  iintro ⟨⟨Hst, Hs⟩, ⟨%W, -, Ho⟩, ⟨%d0, %f0, %e0, H0⟩, ⟨%d1, %f1, %e1, H1⟩, ⟨%d2, %f2, %e2, H2⟩⟩
  rw [h0] at e0
  rw [h1] at e1
  subst e0 e1
  isplitl [Hst]; · iexact Hst
  isplitl [Hs]; · iexact Hs
  isplitl [Ho]
  · iexists W; iexact Ho
  isplitl [H0]; · iexact H0
  isplitl [H1]; · iexact H1
  iexists f2; iexact H2

set_option maxRecDepth 4000 in
theorem obPost_close (c : Dev nD) : iprop(Φ₁ c ∗ ow c 22 ∗ xPts m ρ c ∗ wPts m ρ c ∗ oW c (outB m ρ c)) ⊢ obPost m ρ c := by
  unfold obPost Dat.owesAt Pipeline.owesWithin ow xPts wPts oW
  iintro ⟨HP, ⟨%W, Ho⟩, H0, H1, H2⟩
  isplitl [HP]; · iexact HP
  isplitl [Ho]
  · iexists W
    isplitr
    · ipureintro; exact fun _ _ => Or.inl trivial
    iexact Ho
  isplitl [H0]
  · iexists _; isplitr; · (ipureintro; rfl)
    iexact H0
  isplitl [H1]
  · iexists _; isplitr; · (ipureintro; rfl)
    iexact H1
  iexists _; isplitr; · (ipureintro; rfl)
  iexact H2

theorem ob_wp_upd (c : Dev nD) : obPre m ρ c ⊢ wp frame (wpE (defs₀ (F := F)) 𝒱₀ (c : Thread nD τ) none) Set.univ (cc0_body (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8) (fun _ => iprop(|={Set.univ}=> obPost m ρ c)) := by
  iintro H
  ihave H := (obPre_open m ρ c) $$ H
  unfold start G'
  icases H with ⟨⟨⟨%K, #HR, Ha⟩, Hc, #HL⟩, Hs, Ho, Hx, Hw, ⟨%f, Hout⟩⟩
  ihave #HE : env m ρ K $$ []
  · unfold env
    isplitr
    · iexact HR
    iexact HL
  ihave H := (enter m ρ c f) $$ [Ha Hc Hs Ho Hx Hw Hout]
  · isplitl [Ha]; · iexact Ha
    isplitl [Hc]; · iexact Hc
    isplitl [Hs]; · iexact Hs
    isplitl [Ho]; · iexact Ho
    isplitl [Hx]; · iexact Hx
    isplitl [Hw]; · iexact Hw
    iexact Hout
  icases H with ⟨Hpre, Hsp⟩
  ihave Hb := (body_wp m ρ K c) $$ [Hpre]
  · isplitr; · iexact HE
    iexact Hpre
  iapply (wp_wand _ _ _) $$ Hb
  iintro %r Hpost
  imod (leave m ρ K c) $$ [Hpost Hsp] with H
  · isplitr; · iexact HE
    isplitl [Hpost] <;> iassumption
  imodintro
  iapply (obPost_close m ρ c) $$ H
theorem ob_wp (c : Dev nD) : obPre m ρ c ⊢ wp frame (wpE (defs₀ (F := F)) 𝒱₀ (c : Thread nD τ) none) Set.univ (cc0_body (F := F) xM (Memref.isWhole_whole _) wM (Memref.isWhole_whole _) oM (Memref.isWhole_whole _) sM (Memref.isWhole_whole _) rM (Memref.isWhole_whole _) amM (Memref.isWhole_whole _) atM (Memref.isWhole_whole _) cc0_scratch4 cc0_scratch5 cc0_scratch6 cc0_scratch7 cc0_scratch8) (fun _ => obPost m ρ c) :=
  (ob_wp_upd m ρ c).trans (wp_fupd _ _ _ _ _)

set_option maxRecDepth 4000 in
theorem body_obligation (c : Dev nD) : BodyObligation (dats (F := F) m ρ 0 c) (defs₀ (F := F)) 𝒱₀ () Set.univ := fun t => by
  rw [fin_N0 t, bigSep_W0, bigSep_W0]
  simp only [owns_whole_eq]
  exact ob_wp m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems_eq]
  iintro ⟨Hr, HzB, HzO⟩
  isplitl [HzB]; · iexact HzB
  isplitl [HzO]; · iexact HzO
  iexact Hr

theorem waits (c : Dev nD) : (levAts L lv : sProp 𝕄) ⊢ Pipeline.cellsWaits cfgs (dats m ρ) () 0 c :=
  Pipeline.cellsWaits_intro cfgs (dats m ρ) () 0 c fun w s t => by
    have hr : ∀ (w : Fin 3) s, lvR (role (.dma ((cfgs 0).win w |>.sem s))) = 0 := by intro w s; fin_cases w <;> fin_cases s <;> decide
    rcases t with ⟨_ | _, ht⟩
    · exact mayWait_low c _ (hr w s) 0
    · exact mayWait_low c _ (hr w s) 22

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair run of the eight devices ends, with every array at its computed
contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Fused

end
-- ==== Proof.Quant.lean ====
/- One element of the quantiser over the reals: the kernel multiplies by 127 divided by the maximum, the reference divides by the
maximum divided by 127. The two agree for every value that the maximum bounds, at the maxima 0 and ∞ too. -/
module

public import Idealize.ShloMosaic.PureOps.Ideal.Laws
public import Idealize.ShloMosaic.Lib.IdealHost

@[expose] public section

namespace Cert.Quant
open Idealize.ShloMosaic

/-- The absolute value as both programs take it. -/
noncomputable def mag (y : EReal) : EReal := max y (-y)

theorem mag_nonneg (y : EReal) : 0 ≤ mag y := by
  unfold mag
  rcases le_total 0 y with h | h
  · exact le_max_of_le_left h
  · exact le_max_of_le_right (by simpa using EReal.neg_le_neg_iff.2 h)

/-- The quantised and rescaled value, from what is rounded and the scale. -/
noncomputable def clipped (z : EReal) (s : EReal) : EReal :=
  min ((127 : ℝ) : EReal) (max ((-127 : ℝ) : EReal) (Ideal.liftRound Ideal.roundHalfEven z)) * s

theorem word_pos : Ideal.ofBits .f32 0x42FE0000#32 = ((127 : ℝ) : EReal) := by
  simp [Ideal.ofBits, Ideal.ieee]; rw [← EReal.coe_mul]; norm_num
theorem word_neg : Ideal.ofBits .f32 0xC2FE0000#32 = ((-127 : ℝ) : EReal) := by
  simp [Ideal.ofBits, Ideal.ieee]; rw [← EReal.coe_mul]; norm_num
theorem word_bot : Ideal.ofBits .f32 0xFF800000#32 = ⊥ := by
  simp [Ideal.ofBits, Ideal.ieee]

theorem round_zero : Ideal.liftRound Ideal.roundHalfEven 0 = 0 := by
  have h : Ideal.roundHalfEven 0 = 0 := by simp [Ideal.roundHalfEven]
  rw [show (0 : EReal) = ((0 : ℝ) : EReal) from rfl, Ideal.liftRound_coe, h]; simp

theorem clipped_zero (s : EReal) : clipped 0 s = 0 := by
  unfold clipped
  rw [round_zero, max_eq_right (by exact_mod_cast (by norm_num : (-127 : ℝ) ≤ 0)), min_eq_right (by exact_mod_cast (by norm_num : (0 : ℝ) ≤ 127)), zero_mul]

/-- The two ways to scale before rounding give one result. -/
theorem clipped_eq {y A : EReal} (h : mag y ≤ A) :
    clipped (y * Ideal.div ((127 : ℝ) : EReal) A) (Ideal.div A ((127 : ℝ) : EReal))
      = clipped (Ideal.div y (Ideal.div A ((127 : ℝ) : EReal))) (Ideal.div A ((127 : ℝ) : EReal)) := by
  have hA : 0 ≤ A := (mag_nonneg y).trans h
  have h1 : y ≤ A := (le_max_left _ _).trans h
  have h2 : -y ≤ A := (le_max_right _ _).trans h
  have h127 : (127 : ℝ) ≠ 0 := by norm_num
  induction A with
  | bot => simp at hA
  | top =>
    have e : Ideal.div (⊤ : EReal) ((127 : ℝ) : EReal) = ⊤ := by
      rw [Ideal.div_coe h127]; exact EReal.top_mul_coe_of_pos (by norm_num)
    have e1 : Ideal.div ((127 : ℝ) : EReal) (⊤ : EReal) = 0 := by
      unfold Ideal.div; rw [if_neg (by simp)]; simp
    have e2 : Ideal.div y (⊤ : EReal) = 0 := by
      unfold Ideal.div; rw [if_neg (by simp)]; simp
    rw [e, e1, e2, mul_zero]
  | coe a =>
    have ha : 0 ≤ a := by exact_mod_cast hA
    induction y with
    | bot => simp at h2
    | top => simp at h1
    | coe y =>
      have h1' : y ≤ a := by exact_mod_cast h1
      have h2' : -y ≤ a := by exact_mod_cast h2
      rcases ha.eq_or_lt with h0 | h0
      · subst h0
        have hy : y = 0 := by linarith
        subst hy
        have e : Ideal.div ((0 : ℝ) : EReal) ((127 : ℝ) : EReal) = 0 := by
          rw [Ideal.div_coe h127]; simp
        rw [e]
        unfold clipped
        rw [mul_zero, mul_zero]
      · have e : Ideal.div (a : EReal) ((127 : ℝ) : EReal) = ((a * (1 / 127) : ℝ) : EReal) := by
          rw [Ideal.div_coe h127]; norm_cast
        rw [e, Ideal.div_coe h0.ne', Ideal.div_coe (by positivity)]
        congr 1
        rw [← EReal.coe_mul, ← EReal.coe_mul, ← EReal.coe_mul]
        congr 1
        field_simp

end Cert.Quant

end
-- ==== Proof.Value.lean ====
/- What the kernel leaves, over the reals, as a function of the whole arguments: every element of the result is the product's element,
scaled, rounded, clipped and scaled back, with the largest magnitude of the whole product. -/
module

public import proofs.«01_k».proof.Proof.Run
public import proofs.«01_k».proof.Proof.Quant
public import Idealize.ShloMosaic.Lib.Layout
public import Idealize.ShloMosaic.Lib.MatmulPlain
public import Idealize.ShloMosaic.Lib.ValueIdx
public import Idealize.ShloMosaic.Lib.StackMember
public import Idealize.ShloMosaic.Lib.Pipeline.Value

@[expose] public section

noncomputable section

namespace Cert.Fused

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Quant

/-! ## The arrays before and after, for any element type -/

section Arrays
variable {F : FTy → Type} [FloatOps F]
variable (m : (ℓ : Loc nD τ sig) → Buf (Elt F) ℓ) (ρ : Dev nD → PrngReg)

set_option maxRecDepth 8000 in
theorem finalA_o (c : Dev nD) : finalA m ρ c (2 : Fin 3) = outB m ρ c := by
  refine Dat.arrAt_eq_of_cover (dats m ρ 0 c) (2 : Fin 3) (outB m ρ c) (fun t _ => ?_) (fun i => ⟨(0 : Fin 1), rfl, ?_⟩)
  · rw [fin_N0 t]
    funext y
    show outB m ρ c _ = outB m ρ c _
    congr 1
    funext a; apply Fin.ext
    match a with
    | ⟨0, _⟩ => show (y 0).val = 0 * _ + 1 * (y 0).val; omega
    | ⟨1, _⟩ => show (y 1).val = 0 * _ + 1 * (y 1).val; omega
  · have h := View.emb_mem_set (win0_2.blk (0 : Fin 1)).view i
    convert h using 1
    funext a; apply Fin.ext
    match a with
    | ⟨0, _⟩ => show (i 0).val = 0 * _ + 1 * (i 0).val; omega
    | ⟨1, _⟩ => show (i 1).val = 0 * _ + 1 * (i 1).val; omega

set_option maxRecDepth 8000 in
theorem xb_eq (c : Dev nD) : xb m ρ c = m ((c : Thread nD τ).loc main_arg0) := by
  funext y
  show m ((c : Thread nD τ).loc main_arg0) _ = m ((c : Thread nD τ).loc main_arg0) _
  congr 1
  funext a; apply Fin.ext
  match a with
  | ⟨0, _⟩ => show 0 * _ + 1 * (y 0).val = (y 0).val; omega
  | ⟨1, _⟩ => show 0 * _ + 1 * (y 1).val = (y 1).val; omega

set_option maxRecDepth 8000 in
theorem wb_eq (c : Dev nD) : wb m ρ c = m ((c : Thread nD τ).loc main_arg1) := by
  funext y
  show m ((c : Thread nD τ).loc main_arg1) _ = m ((c : Thread nD τ).loc main_arg1) _
  congr 1
  funext a; apply Fin.ext
  match a with
  | ⟨0, _⟩ => show 0 * _ + 1 * (y 0).val = (y 0).val; omega
  | ⟨1, _⟩ => show 0 * _ + 1 * (y 1).val = (y 1).val; omega
end Arrays

/-! ## The products -/

/-- An element of the whole product. -/
def prod (X : (⟨2, ![4096, 4096]⟩ : Shape).Idx → EReal) (W : S4096x2048.Idx → EReal) (r : Fin 4096) (k : Fin 2048) : EReal :=
  ∑ j : Fin 4096, X (ix2 r j) * W (ix2 j k)

/-- An element of the product that one device takes of its rows and 512 columns. -/
def part (x : S512x4096.Idx → EReal) (w : S4096x512.Idx → EReal) : S512x512.Idx → EReal :=
  fun i => ∑ j : Fin 4096, x (ix2 (i 0) j) * w (ix2 j (i 1))

theorem dot_eq (x : FVec Ideal S512x4096 .f32) (w : FVec Ideal S4096x512 .f32) :
    matmul dot_S512x4096_S4096x512_S512x512_1_0_0_1_n_n none x w (constant S512x512 .f32 0x00000000#32) = part x w := by
  funext i
  rw [eq_ix2 i]
  refine (Ideal.matmul_plain_apply (M := 512) (K := 4096) (N := 512) none x w _ (i 0) (i 1)).trans ?_
  rw [constant_apply, Ideal.ofBits_zero_f32, zero_add]
  rfl

theorem pay1_eq (x : FVec Ideal S512x4096 .f32) : k0_pay1 (F := Ideal) x = x := shapeCast_self _ _
theorem pay2_eq (x : FVec Ideal S512x4096 .f32) (w : FVec Ideal S4096x512 .f32) : k0_pay2 (F := Ideal) x w = part x w := by
  unfold k0_pay2; dsimp only; rw [shapeCast_self]; exact dot_eq x w
theorem pay7_eq (x : FVec Ideal S512x4096 .f32) (w : FVec Ideal S4096x512 .f32) : k0_pay7 (F := Ideal) x w = part x w := by
  unfold k0_pay7; dsimp only; rw [shapeCast_self, shapeCast_self]; exact dot_eq x w
theorem pay12_eq (x : FVec Ideal S512x4096 .f32) (w : FVec Ideal S4096x512 .f32) : k0_pay12 (F := Ideal) x w = part x w := by
  unfold k0_pay12; dsimp only; rw [shapeCast_self, shapeCast_self]; exact dot_eq x w
theorem pay17_eq (x : FVec Ideal S512x4096 .f32) (w : FVec Ideal S4096x512 .f32) : k0_pay17 (F := Ideal) x w = part x w := by
  unfold k0_pay17; dsimp only; rw [shapeCast_self, shapeCast_self]; exact dot_eq x w

/-! ## Maxima, by their upper bounds -/

theorem fold_max_le {ι : Type} (s : Finset ι) (a : EReal) (f : ι → EReal) (b : EReal) :
    s.fold max a f ≤ b ↔ a ≤ b ∧ ∀ i ∈ s, f i ≤ b := Finset.fold_max_le b

/-- A maximum over all elements, taken into a shape of one element. -/
theorem reduce_le {s t : Shape} {axes : List (Fin s.rank)} (v : FVec Ideal s .f32) (h : s.Reduces axes t) (ht : ∀ b, t.size b = 1)
    (hφ) (hacc) (j : t.Idx) (b : EReal) :
    multiReduction .maximumf axes t v 0xFF800000#32 h hφ hacc j ≤ b ↔ ∀ i, v i ≤ b := by
  rw [multiReduction_maximumf_eq_fold]
  refine (fold_max_le _ _ _ _).trans ?_
  rw [Ideal.ofBits_def, word_bot]
  constructor
  · intro hh i
    refine hh.2 i (Finset.mem_filter.2 ⟨Finset.mem_univ _, funext fun b => Fin.ext ?_⟩)
    have := (h.drop i b).isLt; have := (j b).isLt; have := ht b; omega
  · exact fun hh => ⟨bot_le, fun i _ => hh i⟩

theorem cast_forall {s t : Shape} (v : s.Idx → EReal) (h : s.ShapeCasts t) (b : EReal) :
    (∀ i, shapeCast t v h i ≤ b) ↔ ∀ i, v i ≤ b := by
  constructor
  · intro hh i
    have := hh ((Shape.reshapeEquiv h).symm i)
    unfold shapeCast at this
    rwa [Equiv.apply_symm_apply] at this
  · intro hh i
    exact hh _

theorem cast_one_le {s t : Shape} (v : s.Idx → EReal) (h : s.ShapeCasts t) (P : Prop) (b : EReal) (hv : ∀ i, v i ≤ b ↔ P) (i : t.Idx) :
    shapeCast t v h i ≤ b ↔ P := hv _

theorem chunk_le (v : FVec Ideal S512x512 .f32) (b : EReal) :
    extractAt ![0, 0, 0] (shapeCast S1x1x1 (multiReduction .maximumf [1, 2] S1 (shapeCast S1x512x512 (absf v) shapeCasts_S512x512_S1x512x512)
      0xFF800000#32 reduces_S1x512x512_S1 (.inl rfl) rfl) shapeCasts_S1_S1x1x1) inpos_S1x1x1_p0_0_0 ≤ b ↔ ∀ i, mag (v i) ≤ b := by
  unfold extractAt
  refine cast_one_le _ _ _ b (fun j => ?_) _
  exact (reduce_le _ _ (by decide) _ _ _ _).trans (cast_forall _ _ _)

theorem table_le (v : FVec Ideal S8x128 .f32) (b : EReal) : k0_pay25 (F := Ideal) v ≤ b ↔ ∀ i, v i ≤ b := by
  unfold k0_pay25; dsimp only; unfold extractAt
  refine cast_one_le _ _ _ b (fun j => ?_) _
  exact (reduce_le _ _ (by decide) _ _ _ _).trans (cast_forall _ _ _)

theorem pay3_le (x : FVec Ideal S512x4096 .f32) (w : FVec Ideal S4096x512 .f32) (b : EReal) :
    k0_pay3 (F := Ideal) x w ≤ b ↔ 0 ≤ b ∧ ∀ i, mag (part x w i) ≤ b := by
  unfold k0_pay3; dsimp only
  rw [Ideal.scalar_maximumf_def, max_le_iff, chunk_le, pay2_eq]
  rw [show (Scalar.ofBits .f32 0x00000000#32 : Ideal .f32) = 0 from Ideal.ofBits_zero_f32]
theorem pay8_le (a : Ideal .f32) (x : FVec Ideal S512x4096 .f32) (w : FVec Ideal S4096x512 .f32) (b : EReal) :
    k0_pay8 (F := Ideal) a x w ≤ b ↔ a ≤ b ∧ ∀ i, mag (part x w i) ≤ b := by
  unfold k0_pay8; dsimp only
  rw [Ideal.scalar_maximumf_def, max_le_iff, chunk_le, pay7_eq]
theorem pay13_le (a : Ideal .f32) (x : FVec Ideal S512x4096 .f32) (w : FVec Ideal S4096x512 .f32) (b : EReal) :
    k0_pay13 (F := Ideal) a x w ≤ b ↔ a ≤ b ∧ ∀ i, mag (part x w i) ≤ b := by
  unfold k0_pay13; dsimp only
  rw [Ideal.scalar_maximumf_def, max_le_iff, chunk_le, pay12_eq]
theorem pay18_le (a : Ideal .f32) (x : FVec Ideal S512x4096 .f32) (w : FVec Ideal S4096x512 .f32) (b : EReal) :
    k0_pay18 (F := Ideal) a x w ≤ b ↔ a ≤ b ∧ ∀ i, mag (part x w i) ≤ b := by
  unfold k0_pay18; dsimp only
  rw [Ideal.scalar_maximumf_def, max_le_iff, chunk_le, pay17_eq]

/-! ## The kernel's contents, from the whole arguments -/

variable (m : (ℓ : Loc nD τ sig) → Buf (Elt Ideal) ℓ) (ρ : Dev nD → PrngReg)

/-- The whole first argument's row that is row `r` of device `c`'s block; the columns of chunk `n`, of tile `n`. -/
def rowOf (c : Fin 8) (r : Fin 512) : Fin 4096 := ⟨512 * c.val + r.val, by omega⟩
def colOf (n : Fin 4) (k : Fin 512) : Fin 2048 := ⟨512 * n.val + k.val, by omega⟩
def colTile (n : Fin 8) (k : Fin 256) : Fin 2048 := ⟨256 * n.val + k.val, by omega⟩

/-- The devices' blocks are those of the whole arguments `X` and `W`. -/
structure Given (X : (⟨2, ![4096, 4096]⟩ : Shape).Idx → EReal) (W : S4096x2048.Idx → EReal) : Prop where
  hx : ∀ (c : Dev nD) (r : Fin 512) (j : Fin 4096), xb m ρ c (ix2 r j) = X (ix2 (rowOf c r) j)
  hw : ∀ c : Dev nD, wb m ρ c = W

section
variable {m ρ}
variable {X : (⟨2, ![4096, 4096]⟩ : Shape).Idx → EReal} {W : S4096x2048.Idx → EReal} (g : Given m ρ X W)
include g

theorem wc0_eq (c : Dev nD) (j : Fin 4096) (k : Fin 512) : wc0 m ρ c (ix2 j k) = W (ix2 j (colOf 0 k)) := by
  rw [← g.hw c]
  show wb m ρ c _ = wb m ρ c _
  congr 1
  funext a; apply Fin.ext
  match a with
  | ⟨0, _⟩ => show 0 + 1 * j.val = j.val; omega
  | ⟨1, _⟩ => show 0 + 1 * k.val = 512 * 0 + k.val; omega
theorem wc1_eq (c : Dev nD) (j : Fin 4096) (k : Fin 512) : wc1 m ρ c (ix2 j k) = W (ix2 j (colOf 1 k)) := by
  rw [← g.hw c]
  show wb m ρ c _ = wb m ρ c _
  congr 1
  funext a; apply Fin.ext
  match a with
  | ⟨0, _⟩ => show 0 + 1 * j.val = j.val; omega
  | ⟨1, _⟩ => show 512 + 1 * k.val = 512 * 1 + k.val; omega
theorem wc2_eq (c : Dev nD) (j : Fin 4096) (k : Fin 512) : wc2 m ρ c (ix2 j k) = W (ix2 j (colOf 2 k)) := by
  rw [← g.hw c]
  show wb m ρ c _ = wb m ρ c _
  congr 1
  funext a; apply Fin.ext
  match a with
  | ⟨0, _⟩ => show 0 + 1 * j.val = j.val; omega
  | ⟨1, _⟩ => show 1024 + 1 * k.val = 512 * 2 + k.val; omega
theorem wc3_eq (c : Dev nD) (j : Fin 4096) (k : Fin 512) : wc3 m ρ c (ix2 j k) = W (ix2 j (colOf 3 k)) := by
  rw [← g.hw c]
  show wb m ρ c _ = wb m ρ c _
  congr 1
  funext a; apply Fin.ext
  match a with
  | ⟨0, _⟩ => show 0 + 1 * j.val = j.val; omega
  | ⟨1, _⟩ => show 1536 + 1 * k.val = 512 * 3 + k.val; omega

theorem part_eq (c : Dev nD) (n : Fin 4) (w : S4096x512.Idx → EReal) (hw : ∀ j k, w (ix2 j k) = W (ix2 j (colOf n k)))
    (r k : Fin 512) : part (xb m ρ c) w (ix2 r k) = prod X W (rowOf c r) (colOf n k) := by
  unfold part prod
  refine Finset.sum_congr rfl fun j _ => ?_
  show xb m ρ c (ix2 r j) * w (ix2 j k) = _
  rw [g.hx, hw]

theorem part_le (c : Dev nD) (n : Fin 4) (w : S4096x512.Idx → EReal) (hw : ∀ j k, w (ix2 j k) = W (ix2 j (colOf n k))) (b : EReal) :
    (∀ i, mag (part (xb m ρ c) w i) ≤ b) ↔ ∀ r k, mag (prod X W (rowOf c r) (colOf n k)) ≤ b := by
  constructor
  · intro h r k
    rw [← part_eq g c n w hw]
    exact h _
  · intro h i
    rw [eq_ix2 i]
    exact (part_eq g c n w hw (i 0) (i 1)).symm ▸ h (i 0) (i 1)

/-- A device's own maximum: the least bound of its rows' magnitudes, and of zero. -/
theorem mx3_le (c : Dev nD) (b : EReal) : mx3 m ρ c ≤ b ↔ 0 ≤ b ∧ ∀ (n : Fin 4) (r k : Fin 512), mag (prod X W (rowOf c r) (colOf n k)) ≤ b := by
  unfold mx3 mx2 mx1 mx0
  rw [pay18_le, pay13_le, pay8_le, pay3_le, pay1_eq, part_le g c 0 _ (wc0_eq g c), part_le g c 1 _ (wc1_eq g c),
    part_le g c 2 _ (wc2_eq g c), part_le g c 3 _ (wc3_eq g c)]
  constructor
  · rintro ⟨⟨⟨⟨h, h0⟩, h1⟩, h2⟩, h3⟩
    refine ⟨h, fun n => ?_⟩
    match n with
    | 0 => exact h0
    | 1 => exact h1
    | 2 => exact h2
    | 3 => exact h3
  · rintro ⟨h, hn⟩
    exact ⟨⟨⟨⟨h, hn 0⟩, hn 1⟩, hn 2⟩, hn 3⟩

omit g in
theorem pay23_apply (a : Ideal .f32) (i : S1x128.Idx) : k0_pay23 (F := Ideal) a i = a := by
  show shapeCast S1x128 (broadcast S1x128 a) shapeCasts_S1x128_S1x128 i = a
  rw [shapeCast_self, broadcast_apply]

omit g in
theorem tableB_apply (c : Dev nD) (i : S8x128.Idx) : tableB m ρ c i = mx3 m ρ (c - rowNo i) := by
  unfold tableB amaxB
  exact pay23_apply _ _

/-- The maximum of all devices' maxima: the least bound of every magnitude of the product. -/
theorem gmax_le (c : Dev nD) (b : EReal) : k0_pay25 (F := Ideal) (tableB m ρ c) ≤ b ↔ ∀ r k, mag (prod X W r k) ≤ b := by
  rw [table_le]
  constructor
  · intro h r k
    have hr : r.val / 512 < 8 := by omega
    have hk : k.val / 512 < 4 := by omega
    have h1 := h (ix2 (n0 := 8) (n1 := 128) (c - (⟨r.val / 512, hr⟩ : Fin 8)) 0)
    rw [tableB_apply] at h1
    rw [show (c : Fin 8) - rowNo (ix2 (n0 := 8) (n1 := 128) (c - (⟨r.val / 512, hr⟩ : Fin 8)) 0) = (⟨r.val / 512, hr⟩ : Fin 8) from sub_sub_self8 _ _,
      mx3_le g] at h1
    have h2 := h1.2 ⟨k.val / 512, hk⟩ ⟨r.val % 512, Nat.mod_lt _ (by decide)⟩ ⟨k.val % 512, Nat.mod_lt _ (by decide)⟩
    rwa [show rowOf (⟨r.val / 512, hr⟩ : Fin 8) ⟨r.val % 512, Nat.mod_lt _ (by decide)⟩ = r from Fin.ext (Nat.div_add_mod _ _),
      show colOf ⟨k.val / 512, hk⟩ ⟨k.val % 512, Nat.mod_lt _ (by decide)⟩ = k from Fin.ext (Nat.div_add_mod _ _)] at h2
  · intro h i
    rw [tableB_apply, mx3_le g]
    exact ⟨(mag_nonneg _).trans (h 0 0), fun n r k => h _ _⟩

/-! ## The tiles -/

omit g in
theorem half_lo (v : S512x512.Idx → EReal) (y : S1x512x256.Idx) :
    shapeCast S1x512x256 (extractStridedSlice S512x256 ![0, 0] v slices_S512x512_o0_0_S512x256) shapeCasts_S512x256_S1x512x256 y
      = v (ix2 (n0 := 512) (n1 := 512) (y 1) ⟨(y 2).val, by have : (y 2).val < 256 := (y 2).isLt; omega⟩) := by
  rw [shapeCast_addUnit_apply]
  refine extractStridedSlice_apply _ _ _ _ _ fun a => ?_
  match a with
  | ⟨0, _⟩ => show (y 1).val = 0 + (y 1).val; omega
  | ⟨1, _⟩ => show (y 2).val = 0 + (y 2).val; omega
omit g in
theorem half_hi (v : S512x512.Idx → EReal) (y : S1x512x256.Idx) :
    shapeCast S1x512x256 (extractStridedSlice S512x256 ![0, 256] v slices_S512x512_o0_256_S512x256) shapeCasts_S512x256_S1x512x256 y
      = v (ix2 (n0 := 512) (n1 := 512) (y 1) ⟨256 + (y 2).val, by have : (y 2).val < 256 := (y 2).isLt; omega⟩) := by
  rw [shapeCast_addUnit_apply]
  refine extractStridedSlice_apply _ _ _ _ _ fun a => ?_
  match a with
  | ⟨0, _⟩ => show (y 1).val = 0 + (y 1).val; omega
  | ⟨1, _⟩ => rfl

theorem tile_lo (c : Dev nD) (n : Fin 4) (w : S4096x512.Idx → EReal) (hw : ∀ j k, w (ix2 j k) = W (ix2 j (colOf n k)))
    (y : S1x512x256.Idx) (j : Fin 8) (hj : j.val = 2 * n.val) :
    shapeCast S1x512x256 (extractStridedSlice S512x256 ![0, 0] (part (xb m ρ c) w) slices_S512x512_o0_0_S512x256) shapeCasts_S512x256_S1x512x256 y
      = prod X W (rowOf c (y 1)) (colTile j (y 2)) := by
  rw [half_lo]
  refine (part_eq g c n w hw _ _).trans ?_
  congr 1
  apply Fin.ext
  show 512 * n.val + (y 2).val = 256 * j.val + (y 2).val
  omega
theorem tile_hi (c : Dev nD) (n : Fin 4) (w : S4096x512.Idx → EReal) (hw : ∀ j k, w (ix2 j k) = W (ix2 j (colOf n k)))
    (y : S1x512x256.Idx) (j : Fin 8) (hj : j.val = 2 * n.val + 1) :
    shapeCast S1x512x256 (extractStridedSlice S512x256 ![0, 256] (part (xb m ρ c) w) slices_S512x512_o0_256_S512x256) shapeCasts_S512x256_S1x512x256 y
      = prod X W (rowOf c (y 1)) (colTile j (y 2)) := by
  rw [half_hi]
  refine (part_eq g c n w hw _ _).trans ?_
  congr 1
  apply Fin.ext
  show 512 * n.val + (256 + (y 2).val) = 256 * j.val + (y 2).val
  omega

/-- Tile `j` of device `c`, element by element. -/
theorem tileOf_eq (c : Dev nD) (j : Fin 8) (y : S1x512x256.Idx) : tileOf m ρ c j y = prod X W (rowOf c (y 1)) (colTile j (y 2)) := by
  match j with
  | 0 =>
    show k0_pay5 (F := Ideal) _ _ y = _
    unfold k0_pay5 k0_pay4; dsimp only; rw [pay1_eq, pay2_eq]
    exact tile_lo g c 0 _ (wc0_eq g c) y 0 rfl
  | 1 =>
    show k0_pay6 (F := Ideal) _ y = _
    unfold k0_pay6 k0_pay4; dsimp only; rw [pay1_eq, pay2_eq]
    exact tile_hi g c 0 _ (wc0_eq g c) y 1 rfl
  | 2 =>
    show k0_pay10 (F := Ideal) _ y = _
    unfold k0_pay10 k0_pay9; dsimp only; rw [pay7_eq]
    exact tile_lo g c 1 _ (wc1_eq g c) y 2 rfl
  | 3 =>
    show k0_pay11 (F := Ideal) _ y = _
    unfold k0_pay11 k0_pay9; dsimp only; rw [pay7_eq]
    exact tile_hi g c 1 _ (wc1_eq g c) y 3 rfl
  | 4 =>
    show k0_pay15 (F := Ideal) _ _ y = _
    unfold k0_pay15 k0_pay14; dsimp only; rw [pay12_eq]
    exact tile_lo g c 2 _ (wc2_eq g c) y 4 rfl
  | 5 =>
    show k0_pay16 (F := Ideal) _ y = _
    unfold k0_pay16 k0_pay14; dsimp only; rw [pay12_eq]
    exact tile_hi g c 2 _ (wc2_eq g c) y 5 rfl
  | 6 =>
    show k0_pay20 (F := Ideal) _ y = _
    unfold k0_pay20 k0_pay19; dsimp only; rw [pay17_eq]
    exact tile_lo g c 3 _ (wc3_eq g c) y 6 rfl
  | 7 =>
    show k0_pay22 (F := Ideal) (k0_pay21 (k0_pay19 (xb m ρ c) (wc3 m ρ c))) y = _
    unfold k0_pay22 k0_pay21 k0_pay19; dsimp only; rw [pay17_eq]
    exact tile_hi g c 3 _ (wc3_eq g c) y 7 rfl

/-! ## The result -/

omit g in
theorem pay28_apply (s f : Ideal .f32) (v : FVec Ideal S1x512x256 .bf16) (i : S512x256.Idx) :
    k0_pay28 (F := Ideal) s f v i
      = min (Ideal.ofBits .f32 0x42FE0000#32) (max (Ideal.ofBits .f32 0xC2FE0000#32)
          (Ideal.liftRound Ideal.roundHalfEven (shapeCast S512x256 v shapeCasts_S1x512x256_S512x256 i * f))) * s := rfl

/-- Each element of device `c`'s block of the result. -/
theorem outB_eq (c : Dev nD) (A : EReal) (hA : ∀ b, A ≤ b ↔ ∀ r k, mag (prod X W r k) ≤ b) (i : S4096x256.Idx) :
    outB m ρ c i = clipped (prod X W (i 0) (colTile c (i 1)) * Ideal.div ((127 : ℝ) : EReal) A) (Ideal.div A ((127 : ℝ) : EReal)) := by
  have hG : k0_pay25 (F := Ideal) (tableB m ρ c) = A := eq_of_forall_ge_iff fun b => (gmax_le g c b).trans (hA b).symm
  have hS : scl m ρ c = Ideal.div A ((127 : ℝ) : EReal) := by
    unfold scl k0_pay26; dsimp only
    rw [Ideal.scalar_divf_def, hG, show (Scalar.ofBits .f32 0x42FE0000#32 : Ideal .f32) = ((127 : ℝ) : EReal) from word_pos]
  have hF : fac m ρ c = Ideal.div ((127 : ℝ) : EReal) A := by
    unfold fac k0_pay27; dsimp only
    rw [Ideal.scalar_divf_def, hG, show (Scalar.ofBits .f32 0x42FE0000#32 : Ideal .f32) = ((127 : ℝ) : EReal) from word_pos]
  have hT : shapeCast S512x256 (tileOf m ρ (c - (c - tileNo i)) c) shapeCasts_S1x512x256_S512x256 (inTile i) = prod X W (i 0) (colTile c (i 1)) := by
    rw [shapeCast_dropUnit_apply, tileOf_eq g, sub_sub_self8]
    have hr : rowOf (tileNo i) (inTile i 0) = i 0 := Fin.ext (Nat.div_add_mod _ _)
    exact congrArg (fun r => prod X W r (colTile c (i 1))) hr
  unfold outB outTile
  rw [hS, hF, pay28_apply, hT, word_pos, word_neg]
  rfl

end

end Cert.Fused

end
-- ==== Proof.Reference.lean ====
/- What the reference computes, over the reals, element by element, and that the kernel computes the same. -/
module

public import proofs.«01_k».proof.Proof.Value
public import proofs.«01_k».proof.Proof.Gen.ReferenceIdeal.Run
public import proofs.«01_k».proof.Defs
public import Idealize.ShloMosaic.Lib.Layout

@[expose] public section

noncomputable section

namespace Cert.Agree

open Idealize.ShloMosaic Idealize.ShloMosaic.TcCoe Idealize.ShloMosaic.ValueIdx
open Idealize.SL Idealize.SL.Sem
open Cert.Quant
open Cert.Fused (prod colTile rowOf)

section Ref
open Cert.ReferenceIdeal Cert.ReferenceIdeal.Gen

/-- The reference's product and largest magnitude. -/
def yR (X : FVec Ideal S4096x4096 .f32) (W : FVec Ideal S4096x2048 .f32) : FVec Ideal S4096x2048 .f32 :=
  Host.dotGeneral dot_S4096x4096_S4096x2048_S4096x2048_1_0_0_1_n_n none X W
def aR (X : FVec Ideal S4096x4096 .f32) (W : FVec Ideal S4096x2048 .f32) : FVec Ideal S_ .f32 :=
  Host.reduce FloatOps.maximumf (Host.absf (yR X W)) (constant S_ .f32 0xFF800000#32) reducesTo_S4096x2048_S_d0_1 h_S_

/-- The reference's result. -/
def outR (X : FVec Ideal S4096x4096 .f32) (W : FVec Ideal S4096x2048 .f32) : FVec Ideal S4096x2048 .f32 :=
  mulf (minimumf (broadcastInDim S4096x2048 ![] bcast_S_S4096x2048 (id (constant S_ .f32 0x42FE0000#32)))
      (maximumf (broadcastInDim S4096x2048 ![] bcast_S_S4096x2048 (id (constant S_ .f32 0xC2FE0000#32)))
        (Host.roundeven (Host.divf (yR X W) (broadcastInDim S4096x2048 ![] bcast_S_S4096x2048 (Host.divf (aR X W) (constant S_ .f32 0x42FE0000#32)))))))
    (broadcastInDim S4096x2048 ![] bcast_S_S4096x2048 (Host.divf (aR X W) (constant S_ .f32 0x42FE0000#32)))

theorem yR_apply (X : FVec Ideal S4096x4096 .f32) (W : FVec Ideal S4096x2048 .f32) (i : S4096x2048.Idx) :
    yR X W i = prod X W (i 0) (i 1) := by
  rw [eq_ix2 i]
  exact StackMember.dotGeneral_plain_apply (m := 4096) (k := 4096) (n := 2048) none X W (i 0) (i 1)

theorem aR_le (X : FVec Ideal S4096x4096 .f32) (W : FVec Ideal S4096x2048 .f32) (b : EReal) :
    aR X W ix0 ≤ b ↔ ∀ r k, mag (prod X W r k) ≤ b := by
  unfold aR
  rw [Host.reduce_eq_fold]
  refine (Cert.Fused.fold_max_le _ _ _ _).trans ?_
  rw [constant_apply, word_bot]
  constructor
  · intro h r k
    have h1 := h.2 (ix2 r k) (Finset.mem_filter.2 ⟨Finset.mem_univ _, funext fun a => a.elim0⟩)
    have h2 : mag (yR X W (ix2 r k)) ≤ b := h1
    rwa [yR_apply] at h2
  · intro h
    refine ⟨bot_le, fun i _ => ?_⟩
    show mag (yR X W i) ≤ b
    rw [yR_apply]
    exact h _ _

theorem outR_apply (X : FVec Ideal S4096x4096 .f32) (W : FVec Ideal S4096x2048 .f32) (i : S4096x2048.Idx) :
    outR X W i = clipped (Ideal.div (prod X W (i 0) (i 1)) (Ideal.div (aR X W ix0) ((127 : ℝ) : EReal)))
      (Ideal.div (aR X W ix0) ((127 : ℝ) : EReal)) := by
  have hs : broadcastInDim S4096x2048 ![] bcast_S_S4096x2048 (Host.divf (aR X W) (constant S_ .f32 0x42FE0000#32)) i
      = Ideal.div (aR X W ix0) ((127 : ℝ) : EReal) := by
    rw [broadcastInDim_scalar_apply, hostDivf_apply, constant_apply, word_pos]
  have hp : broadcastInDim S4096x2048 ![] bcast_S_S4096x2048 (id (constant (F := Ideal) S_ .f32 0x42FE0000#32)) i = ((127 : ℝ) : EReal) := by
    rw [broadcastInDim_scalar_apply, id, constant_apply, word_pos]
  have hn : broadcastInDim S4096x2048 ![] bcast_S_S4096x2048 (id (constant (F := Ideal) S_ .f32 0xC2FE0000#32)) i = ((-127 : ℝ) : EReal) := by
    rw [broadcastInDim_scalar_apply, id, constant_apply, word_neg]
  unfold outR
  rw [mulf_apply, minimumf_apply, maximumf_apply, hs, hp, hn]
  unfold clipped
  congr 3
  show Ideal.liftRound Ideal.roundHalfEven (Ideal.div (yR X W i) _) = _
  rw [hs, yR_apply]

end Ref

/-- Device `c`'s block of the kernel's result is its block of the reference's. -/
theorem agree (m : (ℓ : Loc Cert.KernelIdeal.nD Cert.KernelIdeal.τ Cert.KernelIdeal.sig) → Buf (Elt Ideal) ℓ)
    (ρ : Dev Cert.KernelIdeal.nD → PrngReg) (X : FVec Ideal Cert.ReferenceIdeal.S4096x4096 .f32) (W : FVec Ideal Cert.ReferenceIdeal.S4096x2048 .f32)
    (hX : ∀ c : Dev Cert.KernelIdeal.nD, m ((c.tc : Thread Cert.KernelIdeal.nD Cert.KernelIdeal.τ).loc Cert.KernelIdeal.main_arg0)
      = Layout.block ⟨2, ![512, 4096]⟩ ⟨2, ![4096, 4096]⟩ 0 8 c X)
    (hW : ∀ c : Dev Cert.KernelIdeal.nD, m ((c.tc : Thread Cert.KernelIdeal.nD Cert.KernelIdeal.τ).loc Cert.KernelIdeal.main_arg1) = W)
    (c : Dev Cert.KernelIdeal.nD) :
    Cert.Fused.outB m ρ c = Layout.block ⟨2, ![4096, 256]⟩ ⟨2, ![4096, 2048]⟩ 1 8 c (outR X W) := by
  have g : Cert.Fused.Given m ρ X W := by
    refine ⟨fun d r j => ?_, fun d => (Cert.Fused.wb_eq m ρ d).trans (hW d)⟩
    rw [Cert.Fused.xb_eq, hX, Layout.block_apply]
    congr 1
    funext a; apply Fin.ext
    match a with
    | ⟨0, _⟩ => show d.val * 512 + r.val = 512 * d.val + r.val; omega
    | ⟨1, _⟩ => rfl
  funext i
  rw [Layout.block_apply, outR_apply, Cert.Fused.outB_eq g c _ (aR_le X W) i]
  refine (clipped_eq ((aR_le X W _).1 le_rfl _ _)).trans ?_
  have e0 : (Layout.Tiles.idx (S := ⟨2, ![4096, 256]⟩) (T := ⟨2, ![4096, 2048]⟩) (a := 1) (k := 8) (by decide) c i) 0 = i 0 := rfl
  have e1 : (Layout.Tiles.idx (S := ⟨2, ![4096, 256]⟩) (T := ⟨2, ![4096, 2048]⟩) (a := 1) (k := 8) (by decide) c i) 1 = colTile c (i 1) :=
    Fin.ext (by show c.val * 256 + (i 1).val = 256 * c.val + (i 1).val; omega)
  rw [← e1]
  rfl

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Reference
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ =>
  (θ_run Cert.KernelIdeal.defs _ _).mono
    (fun _ h => ⟨fun c => ⟨(h.1 c (0 : Fin 3)).trans (Cert.Fused.finalA_x m ρ c), (h.1 c (1 : Fin 3)).trans (Cert.Fused.finalA_w m ρ c)⟩, h.2⟩)
    (Cert.Fused.run_main (F := Ideal) m ρ)

/-- The printed kernel and its idealization have the same text: the same body table, -/
theorem bodies_eq : (Cert.KernelIdeal.defs₀ (F := Bits)) = Cert.Kernel.defs₀ (F := Bits) := by
  unfold Cert.KernelIdeal.defs₀ Cert.Kernel.defs₀
  congr 1
  funext l a
  match l, a with
  | 0, (t, s) => rfl
theorem table_eq : (Cert.KernelIdeal.defs (F := Bits)) = Cert.Kernel.defs (F := Bits) := by
  unfold Cert.KernelIdeal.defs Cert.Kernel.defs
  exact congrArg _ bodies_eq

/-- so the run of the one, at words of bits, is the run of the other. -/
theorem frame_kernel : Cert.quiescent_Kernel := by
  intro m ρ _
  rw [← table_eq]
  have h := (θ_run Cert.KernelIdeal.defs _ _).mono
    (fun (r : PUnit × MemSt Cert.KernelIdeal.nD Cert.KernelIdeal.τ Cert.KernelIdeal.sig (Elt Bits)) h => (show (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0 from
      ⟨fun c => ⟨(h.1 c (0 : Fin 3)).trans (Cert.Fused.finalA_x m ρ c), (h.1 c (1 : Fin 3)).trans (Cert.Fused.finalA_w m ρ c)⟩, h.2⟩))
    (Cert.Fused.run_main (F := Bits) m ρ)
  exact h

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The value claim: every device's block of the kernel's result is its block of what the reference computes. -/
theorem agrees : Cert.algebraic_KernelIdeal_ReferenceIdeal := by
  intro m ρ m' ρ' _ h
  refine ⟨Cert.Agree.outR
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r hr c => ⟨?_, ?_, ?_⟩) (Cert.Fused.run_main (F := Ideal) m ρ)
    · exact ((hr.1 c (2 : Fin 3)).trans (Cert.Fused.finalA_o m ρ c)).trans
        (Cert.Agree.agree m ρ _ _ (fun c => (h c).1) (fun c => (h c).2) c)
    · exact (hr.1 c (0 : Fin 3)).trans (Cert.Fused.finalA_x m ρ c)
    · exact (hr.1 c (1 : Fin 3)).trans (Cert.Fused.finalA_w m ρ c)
  · exact (θ_run Cert.ReferenceIdeal.defs _ _).mono (fun r hr => ⟨(hr 0).1, (hr 0).2.1, (hr 0).2.2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, agrees⟩

end Cert.Proof

end
